-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x384x192 : Shape := ⟨4, ![4, 384, 384, 192]⟩
abbrev S4x384x192x384 : Shape := ⟨4, ![4, 384, 192, 384]⟩
abbrev S4x12 : Shape := ⟨2, ![4, 12]⟩
abbrev S1x32x8x384 : Shape := ⟨4, ![1, 32, 8, 384]⟩
abbrev S1 : Shape := ⟨1, ![1]⟩
abbrev S32x8x384 : Shape := ⟨3, ![32, 8, 384]⟩
abbrev S32x1x384 : Shape := ⟨3, ![32, 1, 384]⟩
abbrev S32x384 : Shape := ⟨2, ![32, 384]⟩
abbrev S1x32x384 : Shape := ⟨3, ![1, 32, 384]⟩
abbrev S1x1x1 : Shape := ⟨3, ![1, 1, 1]⟩
abbrev S1x1 : Shape := ⟨2, ![1, 1]⟩
abbrev S_ : Shape := ⟨0, ![]⟩
abbrev S4 : Shape := ⟨1, ![4]⟩
abbrev S12 : Shape := ⟨1, ![12]⟩
abbrev S1x12 : Shape := ⟨2, ![1, 12]⟩
abbrev S4x1 : Shape := ⟨2, ![4, 1]⟩
abbrev S4x384x384 : Shape := ⟨3, ![4, 384, 384]⟩
abbrev S1x32x192x384 : Shape := ⟨4, ![1, 32, 192, 384]⟩
abbrev S32x192x384 : Shape := ⟨3, ![32, 192, 384]⟩
abbrev S32x1 : Shape := ⟨2, ![32, 1]⟩
abbrev S32x383 : Shape := ⟨2, ![32, 383]⟩
abbrev S32x2 : Shape := ⟨2, ![32, 2]⟩
abbrev S32x382 : Shape := ⟨2, ![32, 382]⟩
abbrev S32x4 : Shape := ⟨2, ![32, 4]⟩
abbrev S32x380 : Shape := ⟨2, ![32, 380]⟩
abbrev S32x8 : Shape := ⟨2, ![32, 8]⟩
abbrev S32x376 : Shape := ⟨2, ![32, 376]⟩
abbrev S32x16 : Shape := ⟨2, ![32, 16]⟩
abbrev S32x368 : Shape := ⟨2, ![32, 368]⟩
abbrev S32x32 : Shape := ⟨2, ![32, 32]⟩
abbrev S32x352 : Shape := ⟨2, ![32, 352]⟩
abbrev S32x64 : Shape := ⟨2, ![32, 64]⟩
abbrev S32x320 : Shape := ⟨2, ![32, 320]⟩
abbrev S32x128 : Shape := ⟨2, ![32, 128]⟩
abbrev S32x256 : Shape := ⟨2, ![32, 256]⟩
abbrev S31x1 : Shape := ⟨2, ![31, 1]⟩
abbrev S2x1 : Shape := ⟨2, ![2, 1]⟩
abbrev S30x1 : Shape := ⟨2, ![30, 1]⟩
abbrev S28x1 : Shape := ⟨2, ![28, 1]⟩
abbrev S8x1 : Shape := ⟨2, ![8, 1]⟩
abbrev S24x1 : Shape := ⟨2, ![24, 1]⟩
abbrev S16x1 : Shape := ⟨2, ![16, 1]⟩
abbrev S4x384x384x1 : Shape := ⟨4, ![4, 384, 384, 1]⟩

abbrev nBuf : Space → Nat
  | .hbm => 26
  | .vmem => 8
  | .smem => 4
  | _ => 0

abbrev bufTy : (tb : Table) → Fin (tcTables nBuf tb) → BufTy
  | .hbm, ⟨0, _⟩ => ⟨S4x384x384x192, .f32⟩
  | .hbm, ⟨1, _⟩ => ⟨S4x384x192x384, .f32⟩
  | .hbm, ⟨2, _⟩ => ⟨S4x12, .i32⟩
  | .hbm, ⟨3, _⟩ => ⟨S_, .i32⟩
  | .hbm, ⟨4, _⟩ => ⟨S4x12, .i32⟩
  | .hbm, ⟨5, _⟩ => ⟨S4x12, .i1⟩
  | .hbm, ⟨6, _⟩ => ⟨S4x12, .i32⟩
  | .hbm, ⟨7, _⟩ => ⟨S_, .i32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S12, .i32⟩
  | .hbm, ⟨16, _⟩ => ⟨S1x12, .i32⟩
  | .hbm, ⟨17, _⟩ => ⟨S4x1, .i32⟩
  | .hbm, ⟨18, _⟩ => ⟨S4x12, .i32⟩
  | .hbm, ⟨19, _⟩ => ⟨S4x12, .i32⟩
  | .hbm, ⟨20, _⟩ => ⟨S_, .i32⟩
  | .hbm, ⟨21, _⟩ => ⟨S4x12, .i32⟩
  | .hbm, ⟨22, _⟩ => ⟨S4x384x192x384, .f32⟩
  | .hbm, ⟨23, _⟩ => ⟨S4x384x384, .f32⟩
  | .hbm, ⟨24, _⟩ => ⟨S4x384x384x192, .f32⟩
  | .hbm, ⟨25, _⟩ => ⟨S4x384x384x1, .f32⟩
  | .local _ .vmem, ⟨0, _⟩ => ⟨S1x32x8x384, .f32⟩
  | .local _ .vmem, ⟨1, _⟩ => ⟨S1x32x8x384, .f32⟩
  | .local _ .vmem, ⟨2, _⟩ => ⟨S1x32x192x384, .f32⟩
  | .local _ .vmem, ⟨3, _⟩ => ⟨S1x32x192x384, .f32⟩
  | .local _ .vmem, ⟨4, _⟩ => ⟨S1x32x192x384, .f32⟩
  | .local _ .vmem, ⟨5, _⟩ => ⟨S1x32x192x384, .f32⟩
  | .local _ .vmem, ⟨6, _⟩ => ⟨S1x32x384, .f32⟩
  | .local _ .vmem, ⟨7, _⟩ => ⟨S1x32x384, .f32⟩
  | .local _ .smem, ⟨0, _⟩ => ⟨S4x12, .i32⟩
  | .local _ .smem, ⟨1, _⟩ => ⟨S1, .i32⟩
  | .local _ .smem, ⟨2, _⟩ => ⟨S4x12, .i32⟩
  | .local _ .smem, ⟨3, _⟩ => ⟨S4x12, .i32⟩
  | _, _ => ⟨S4x384x384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v16 : Ref sig .tc := ⟨.hbm, 21, rfl⟩
abbrev main_v18_0 : Ref sig .tc := ⟨.hbm, 22, rfl⟩
abbrev main_v18_1 : Ref sig .tc := ⟨.hbm, 23, rfl⟩
abbrev main_v19 : Ref sig .tc := ⟨.hbm, 24, rfl⟩
abbrev main_v20 : Ref sig .tc := ⟨.hbm, 25, rfl⟩
abbrev main_v17 : Ref sig .tc := ⟨.smem, 2, rfl⟩
abbrev main_v15 : Ref sig .tc := ⟨.smem, 3, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_stg1_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![4, 12], ![false, false]⟩

def k0_off1 (i : grid0.Coords) : Fin 2 → Nat :=
  let arg0 : BitVec 32 := BitVec.ofNat 32 (i 0).val
  let v17 : Index := Scalar.indexCast arg0
  let arg1 : BitVec 32 := BitVec.ofNat 32 (i 1).val
  let v18 : Index := Scalar.indexCast arg1
  ![v17.toNat, v18.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S4x12 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨2, ![4, 12], ![false, false]⟩

abbrev pre1 : Pipeline.Prefetch sig := ⟨2, ![main_v17.idx, main_v15.idx], fun | 0 => main_v17.names | 1 => main_v15.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_cond1 (v2 : BitVec 32) : BitVec 1 :=
  let c20000_i32 : BitVec 32 := 20000#32
  let v3 : BitVec 1 := Scalar.cmpi .sge v2 c20000_i32
  let v_true : BitVec 1 := 1#1
  let v4 : BitVec 1 := Scalar.xori v3 v_true
  let v5 : BitVec 32 := Scalar.extui v4
  let c0_i32 : BitVec 32 := 0#32
  let v6 : BitVec 1 := Scalar.cmpi .ne v5 c0_i32
  v6

def k1_cond3 (v2 : BitVec 32) : BitVec 1 :=
  let c20000_i32 : BitVec 32 := 20000#32
  let v3 : BitVec 1 := Scalar.cmpi .sge v2 c20000_i32
  let v7 : BitVec 32 := Scalar.extui v3
  let c0_i32_0 : BitVec 32 := 0#32
  let v8 : BitVec 1 := Scalar.cmpi .ne v7 c0_i32_0
  v8

def cc1_transform_0 (k1_off1_inb : ∀ i : grid1.Coords, ∀ a, (k1_off1 i) a + S1x1.size a ≤ S4x12.size a) (numel1_S1x1 : S1x1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S4x12) ![v0.toNat, v1.toNat] S1x1.size (k1_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x32x192x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x192x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S4x384x384x192 : Shape := ⟨4, ![4, 384, 384, 192]⟩
abbrev S4x384x384x1 : Shape := ⟨4, ![4, 384, 384, 1]⟩
abbrev S4x384x384 : Shape := ⟨3, ![4, 384, 384]⟩
abbrev S_ : Shape := ⟨0, ![]⟩
abbrev S4x147456 : Shape := ⟨2, ![4, 147456]⟩

abbrev nBuf : Space → Nat
  | .hbm => 22
  | .vmem => 0
  | .smem => 0
  | _ => 0

abbrev bufTy : (tb : Table) → Fin (tcTables nBuf tb) → BufTy
  | .hbm, ⟨0, _⟩ => ⟨S4x384x384x192, .f32⟩
  | .hbm, ⟨1, _⟩ => ⟨S4x384x384x1, .f32⟩
  | .hbm, ⟨2, _⟩ => ⟨S4x384x384, .f32⟩
  | .hbm, ⟨3, _⟩ => ⟨S_, .f32⟩
  | .hbm, ⟨4, _⟩ => ⟨S4x384x384, .f32⟩
  | .hbm, ⟨5, _⟩ => ⟨S4x384x384, .i1⟩
  | .hbm, ⟨6, _⟩ => ⟨S4x384x384, .i32⟩
  | .hbm, ⟨7, _⟩ => ⟨S4x147456, .i32⟩
  | .hbm, ⟨8, _⟩ => ⟨S_, .i32⟩
  | .hbm, ⟨9, _⟩ => ⟨S_, .i32⟩
  | .hbm, ⟨10, _⟩ => ⟨S4x147456, .i32⟩
  | .hbm, ⟨11, _⟩ => ⟨S_, .i32⟩
  | .hbm, ⟨12, _⟩ => ⟨S4x147456, .i32⟩
  | .hbm, ⟨13, _⟩ => ⟨S4x147456, .i1⟩
  | .hbm, ⟨14, _⟩ => ⟨S_, .i32⟩
  | .hbm, ⟨15, _⟩ => ⟨S4x147456, .i32⟩
  | .hbm, ⟨16, _⟩ => ⟨S4x147456, .i1⟩
  | .hbm, ⟨17, _⟩ => ⟨S4x147456, .i1⟩
  | .hbm, ⟨18, _⟩ => ⟨S4x147456, .f32⟩
  | .hbm, ⟨19, _⟩ => ⟨S4x384x384x1, .f32⟩
  | .hbm, ⟨20, _⟩ => ⟨S4x384x384x192, .f32⟩
  | .hbm, ⟨21, _⟩ => ⟨S4x384x384x192, .f32⟩
  | _, _ => ⟨S4x384x384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_call0_c : Ref sig .tc := ⟨.hbm, 8, rfl⟩
abbrev main_call0_call0_v0 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Body.lean ====
/-
  The counting body, run once from its buffers: it reads one block of the image, counts the flags in it, and writes the count of the flags
  before the block into the table. The running count is kept in a one-word buffer, reset at the first block of a batch.
-/
module
public import proofs.«01_k».proof.Proof.Gen.KernelIdeal.Launch
public import proofs.«01_k».proof.Proof.Gen.KernelIdeal.Skeleton
public import Idealize.ShloMosaic.Lib.Pipeline.Regions
public import Idealize.ShloMosaic.Lib.Tactic
@[expose] public section
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]

abbrev UU : Type := UR sig nD τ × Counters
local notation "𝕄" => MT nD τ sig Unit (Elt F) ℕ (UU) ℕ

/-- The one index of a one-entry tensor. -/
def o1 : S1.Idx := fun a => ⟨0, by revert a; decide⟩
/-- The running count the body starts a point with: zero at the first block of a batch, else what the scratch word holds. -/
def countIn (i : grid0.Coords) (Z : Vec F S1 .i32) : BitVec 32 := if (i 1).val = 0 then 0#32 else Z o1
/-- The running count after a point: the block's count added. -/
def countOut (i : grid0.Coords) (X : Vec F S1x32x8x384 .f32) (Z : Vec F S1 .i32) : BitVec 32 :=
  countIn i Z + Scalar.fptosi 32 (k0_pay1 X)

theorem S1_idx (y : S1.Idx) : y = o1 := by
  funext a
  have ha : a = 0 := by revert a; decide
  subst ha
  have h : (y 0).val < 1 := (y 0).isLt
  exact Fin.ext (by show (y 0).val = 0; omega)

theorem first_iff (i : grid0.Coords) : (Scalar.cmpi .ne (Scalar.extui (Scalar.cmpi .eq (BitVec.ofNat 32 (i 1).val) 0#32) : BitVec 32) 0#32 = 1#1) ↔ (i 1).val = 0 := by
  revert i; decide

/-- A load of the whole shape through a unit-stride rectangle at the origin reads the view's contents. -/
theorem readAt_origin {κ : Kind} {sp : Space} {s : Shape} {e : EltTy} (v : View sig κ sp s e) (f : v.ty.Contents (Elt F))
    (off : Fin s.rank → ℕ) (hoff : ∀ a, off a = 0) (inb : ∀ a, off a + s.size a ≤ s.size a) :
    v.readAt (Elt F) (Rect.unit off s.size inb).toLoadRect f = v.read (Elt F) f := by
  funext y
  show v.read (Elt F) f ((Rect.unit off s.size inb).emb y) = v.read (Elt F) f y
  congr 1
  exact (Rect.unit off s.size inb).emb_eq_of_coords y y (fun a => by show (y a).val = off a + 1 * (y a).val; rw [hoff a]; omega)

/-- The newest write of the whole shape is what the view reads. -/
theorem read_writes_origin {κ : Kind} {sp : Space} {s : Shape} {e : EltTy} (v : View sig κ sp s e) (f : v.ty.Contents (Elt F))
    (off : Fin s.rank → ℕ) (hoff : ∀ a, off a = 0) (inb : ∀ a, off a + s.size a ≤ s.size a) (w : s.Idx → Elt F e) (L : List (View.Piece (Elt F) s e)) :
    v.read (Elt F) (v.writes (Elt F) f (⟨Rect.unit off s.size inb, w⟩ :: L)) = w := by
  funext y
  exact View.read_writes_cons_hit_of_coords v f (Rect.unit off s.size inb) w L y y (fun a => by show (y a).val = off a + 1 * (y a).val; rw [hoff a]; omega)

theorem k0_off1_0 (i : grid0.Coords) : k0_off1 i 0 = (i 0).val := by revert i; decide
theorem k0_off1_1 (i : grid0.Coords) : k0_off1 i 1 = (i 1).val := by revert i; decide

/-- The table after one word is written at the point's place: that word there, what it held elsewhere. -/
theorem table_write (i : grid0.Coords) (v : View sig .tc .smem S4x12 .i32) (f : v.ty.Contents (Elt F)) (w : BitVec 32) (inb) :
    (∀ j, (j 0).val = (i 0).val → (j 1).val = (i 1).val →
        v.read (Elt F) (v.writes (Elt F) f [⟨Rect.unit (s := S4x12) (k0_off1 i) S1x1.size inb, fun _ => w⟩]) j = w)
      ∧ ∀ j, ¬ ((j 0).val = (i 0).val ∧ (j 1).val = (i 1).val) →
        v.read (Elt F) (v.writes (Elt F) f [⟨Rect.unit (s := S4x12) (k0_off1 i) S1x1.size inb, fun _ => w⟩]) j = v.read (Elt F) f j := by
  refine ⟨fun j h0 h1 => ?_, fun j hj => ?_⟩
  · refine View.read_writes_cons_hit_of_coords v f (Rect.unit (s := S4x12) (k0_off1 i) S1x1.size inb) (fun _ => w) [] (fun a => ⟨0, (by decide : ∀ a : Fin 2, 0 < S1x1.size a) a⟩) j (fun a => ?_)
    show (j a).val = k0_off1 i a + 1 * 0
    fin_cases a
    · exact h0.trans (k0_off1_0 i).symm
    · exact h1.trans (k0_off1_1 i).symm
  · by_cases h0 : (j 0).val = (i 0).val
    · have h1 : (j 1).val ≠ (i 1).val := fun h => hj ⟨h0, h⟩
      exact View.read_writes_cons_miss_of_axis v f _ [] j 1 (i 1).val 1 (k0_off1_1 i) rfl rfl (by omega)
    · exact View.read_writes_cons_miss_of_axis v f _ [] j 0 (i 0).val 1 (k0_off1_0 i) rfl rfl (by omega)

theorem countRun (c : Dev nD) (i : grid0.Coords) (arg2 : Memref sig .tc .vmem S1x32x8x384 .f32) (harg2 : arg2.IsWhole)
    (arg3 : Memref sig .tc .smem S4x12 .i32) (harg3 : arg3.IsWhole) (arg4 : Memref sig .tc .smem S1 .i32) (harg4 : arg4.IsWhole)
    (X : Vec F S1x32x8x384 .f32) (Y : Vec F S4x12 .i32) (Z : Vec F S1 .i32) (K : PUnit → sProp 𝕄) :
    iprop(owns (c : Thread nD τ) arg2 fullShare X ∗ owns (c : Thread nD τ) arg3 fullShare Y ∗ owns (c : Thread nD τ) arg4 fullShare Z
      ∗ (iprop(owns (c : Thread nD τ) arg2 fullShare X
          ∗ (∃ Y' : Vec F S4x12 .i32, ⌜(∀ j, (j 0).val = (i 0).val → (j 1).val = (i 1).val → Y' j = countIn i Z)
                ∧ ∀ j, ¬ ((j 0).val = (i 0).val ∧ (j 1).val = (i 1).val) → Y' j = Y j⌝
              ∗ owns (c : Thread nD τ) arg3 fullShare Y')
          ∗ owns (c : Thread nD τ) arg4 fullShare (fun _ => countOut i X Z : Vec F S1 .i32)) -∗ K ⟨⟩))
      ⊢ wp frame (wpE (defs₀ (F := F)) Variants.none c none) Set.univ (cc0__count_body i arg2 harg2 arg3 harg3 arg4 harg4) K := by
  simp only [cc0__count_body_eq_skeleton]; unfold cc0__count_body_skel
  unfold owns
  iintro ⟨⟨%f2, %h2, H2⟩, ⟨%f3, %h3, H3⟩, ⟨%f4, %h4, H4⟩, Hk⟩
  have hX : ∀ (inb : _), arg2.view.readAt (Elt F) (Rect.unit (s := S1x32x8x384) ![0, 0, 0, 0] S1x32x8x384.size inb).toLoadRect f2 = X :=
    fun inb => (readAt_origin _ _ _ (by decide) _).trans h2
  have hZ : ∀ (inb : _) (y : S1.Idx), arg4.view.readAt (Elt F) (Rect.unit (s := S1) ![0] S1.size inb).toLoadRect f4 y = Z o1 :=
    fun inb y => (congrFun ((readAt_origin _ _ _ (by decide) _).trans h4) _).trans (congrArg Z (S1_idx y))
  by_cases hi : Scalar.cmpi .ne (Scalar.extui (Scalar.cmpi .eq (BitVec.ofNat 32 (i 1).val) 0#32) : BitVec 32) 0#32 = 1#1
  · have hi' := (first_iff i).mp hi
    have hc : countIn i Z = 0#32 := if_pos hi'
    sl_exec
    sl_step
    iapply Hk
    isplitl [H2]
    · iexists _; isplitr; swap; · iexact H2
      ipureintro; exact h2
    isplitl [H3]
    · iexists _; isplitr; swap
      · iexists _; isplitr; swap; · iexact H3
        ipureintro; rfl
      ipureintro
      have H := table_write i arg3.view f3 0#32 (k0_off1_inb i)
      exact ⟨fun j h0 h1 => (H.1 j h0 h1).trans hc.symm, fun j hj => (H.2 j hj).trans (congrFun h3 j)⟩
    · iexists _; isplitr; swap; · iexact H4
      ipureintro
      refine (read_writes_origin arg4.view f4 ![0] (by decide) inb_S1_S1_0 _ _).trans ?_
      funext y
      unfold countOut
      rw [hc, ← hX inb_S1x32x8x384_S1x32x8x384_0_0_0_0]
      rfl
  · have hi' := fun h => hi ((first_iff i).mpr h)
    have hc : countIn i Z = Z o1 := if_neg hi'
    sl_exec
    sl_step
    iapply Hk
    isplitl [H2]
    · iexists _; isplitr; swap; · iexact H2
      ipureintro; exact h2
    isplitl [H3]
    · iexists _; isplitr; swap
      · iexists _; isplitr; swap; · iexact H3
        ipureintro; rfl
      ipureintro
      have H := table_write i arg3.view f3 (countRun.sl.r_2 c arg4 f4) (k0_off1_inb i)
      exact ⟨fun j h0 h1 => (H.1 j h0 h1).trans ((hZ _ _).trans hc.symm), fun j hj => (H.2 j hj).trans (congrFun h3 j)⟩
    · iexists _; isplitr; swap; · iexact H4
      ipureintro
      refine (read_writes_origin arg4.view f4 ![0] (by decide) inb_S1_S1_0 _ _).trans ?_
      funext y
      unfold countOut
      rw [hc, ← hX inb_S1x32x8x384_S1x32x8x384_0_0_0_0, ← hZ inb_S1_S1_0 (Shape.Idx.first (by decide))]
      rfl
end Cert.KernelIdeal.Hand
end
-- ==== Proof.KernelIdeal.Count.lean ====
/-
  The first region: the grid of forty-eight points counts each block's flags and writes, entry by entry, the table of running counts.
  The table's staging buffer is filled one word at a point and written back after the last, so the data hold it to a predicate: after
  point `t` the entries up to `t` are right.
-/
module
public import proofs.«01_k».proof.Proof.KernelIdeal.Body
public import proofs.«01_k».proof.Proof.Gen.KernelIdeal.Points
public import Idealize.ShloMosaic.Lib.Pipeline.DatRel
public import Idealize.ShloMosaic.Lib.Pipeline.ArrRel
@[expose] public section
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
variable {F : FTy → Type} [FloatOps F]
local notation "𝕄" => MT nD τ sig Unit (Elt F) ℕ (UU) ℕ

/-- The coordinates of a point of the first grid. -/
theorem coords0 : ∀ t : Fin grid0.N, ((grid0.coords t) 0).val = t.val / 12 ∧ ((grid0.coords t) 1).val = t.val % 12 := by decide +kernel

variable (W : Dev nD → Valuation τ sig (Elt F))

/-- What a valuation holds of the core's buffer `b`. -/
abbrev at_ (c : Dev nD) (b : Ref sig .tc) : Buf (Elt F) ((c : Thread nD τ).loc b) := W c b

/-- The block of the image that point `t` counts. -/
def blk0 (c : Dev nD) (t : Fin cfg0.N) : Vec F S1x32x8x384 .f32 :=
  ((cfg0.win 0).blk t).view.read (Elt F) (at_ W c (Pipeline.arrRef spec0 0))

/-- The scratch word as point `t` finds it (after point `t - 1`). -/
def scr (c : Dev nD) : ℕ → BitVec 32
  | 0 => 0#32
  | t + 1 => if h : t < cfg0.N then countOut (grid0.coords ⟨t, h⟩) (blk0 W c ⟨t, h⟩) (fun _ => scr c t : Vec F S1 .i32) else 0#32

/-- The point whose entry of the table `j` is. -/
def ptOf (j : S4x12.Idx) : ℕ := 12 * (j 0).val + (j 1).val

theorem ptOf_lt (j : S4x12.Idx) : ptOf j < cfg0.N := by
  have h0 : (j 0).val < 4 := (j 0).isLt
  have h1 : (j 1).val < 12 := (j 1).isLt
  show 12 * (j 0).val + (j 1).val < grid0.N
  rw [N_0]; omega

/-- The table of running counts: the count of the batch's blocks before each. -/
def carries (c : Dev nD) : Vec F S4x12 .i32 := fun j => countIn (F := F) (grid0.coords ⟨ptOf j, ptOf_lt j⟩) (fun _ => scr W c (ptOf j))

/-- The scratch word before point `t`, and the other scoped buffers at anything. -/
def Phi0 (c : Dev nD) (t : ℕ) : sProp 𝕄 :=
  iprop((∃ Z : Vec F S1 .i32, ⌜t ≠ 0 → Z = fun _ => scr W c t⌝ ∗ owns (c : Thread nD τ) (Memref.whole cc0_scratch0) fullShare Z)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's data: the image's blocks as fetched, the table named (but held only to `Rl0`). -/
def dat0 (c : Dev nD) : Dat τ (Elt F) Unit ℕ (UU) ℕ cfg0 c where
  A w := at_ W c (Pipeline.arrRef spec0 w)
  after w t := match w with | ⟨0, _⟩ => blk0 W c t | ⟨1, _⟩ => carries W c
  Φ t := Phi0 W c t.val
  q _ := fullShare
  owed _ := 0

/-- The table is the window held to a predicate; -/
def fgt0 : Fin cfg0.W → Bool := fun w => decide (w = (1 : Fin 2))
/-- that the entries up to the point are right. -/
def Rl0 (c : Dev nD) (w : Fin cfg0.W) (t : Fin cfg0.N) (X : (cfg0.win w).block.Idx → Elt F (cfg0.win w).elt) : Prop :=
  match w, X with
  | ⟨0, _⟩, _ => True
  | ⟨1, _⟩, X => ∀ j : S4x12.Idx, ptOf j ≤ t.val → X j = carries W c j

/-- The region's data with the table held to the predicate. -/
abbrev rdat0 (c : Dev nD) : RDat τ (Elt F) Unit ℕ (UU) ℕ cfg0 c := (dat0 W c).toRRel fgt0 (Rl0 W c)

theorem before0 (c : Dev nD) (t : Fin cfg0.N) (d : (cfg0.win 0).block.Idx → Elt F (cfg0.win 0).elt) :
    (dat0 W c).before 0 t d = blk0 W c t := by
  unfold Dat.before; rw [if_pos (fetch0_0 t)]; rfl

/-- What the body finds in the table's buffer: the earlier points' entries right. -/
theorem finds1 (c : Dev nD) (t : Fin cfg0.N) (Y : Vec F S4x12 .i32) (h : (rdat0 W c).Finds 1 t Y) (j : S4x12.Idx) (hj : ptOf j < t.val) :
    Y j = carries W c j := by
  have ht : t.val ≠ 0 := by omega
  have hN : t.val < 48 := by have := t.isLt; have e : cfg0.N = 48 := N_0; omega
  rcases ((rdat0 W c).finds_of_pos (w := 1) rfl ht Y).mp h with hfl | hl
  · have := (flush0_1 _).mp hfl
    simp only at this; omega
  · exact (dat0 W c).toRRel_leaves (fgt := fgt0) (Rl := Rl0 W c) (w := 1) (by decide) hl j (by show ptOf j ≤ t.val - 1; omega)

theorem body_obligation0 (c : Dev nD) : BodyObligationRel (dat0 W c) (defs₀ (F := F)) Variants.none () Set.univ fgt0 (Rl0 W c) := fun t => by
  rw [bigSep_W0, bigSep_W0]
  have hN : t.val < 48 := by have := t.isLt; have e : cfg0.N = 48 := N_0; omega
  have hc := coords0 t
  show iprop(Phi0 W c t.val ∗ (dat0 W c).owesAt () t.castSucc
      ∗ (∃ d, owns (c : Thread nD τ) (st0_0 t) fullShare ((dat0 W c).before 0 t d))
      ∗ (∃ Y : Vec F S4x12 .i32, ⌜(rdat0 W c).Finds 1 t Y⌝ ∗ owns (c : Thread nD τ) (st0_1 t) fullShare Y))
    ⊢ wp frame (wpE (defs₀ (F := F)) Variants.none c none) Set.univ (bodyAt0 t) fun _ =>
      iprop(Phi0 W c (t.val + 1) ∗ (dat0 W c).owesAt () t.succ
        ∗ owns (c : Thread nD τ) (st0_0 t) fullShare (blk0 W c t)
        ∗ (∃ X : Vec F S4x12 .i32, ⌜∀ j : S4x12.Idx, ptOf j ≤ t.val → X j = carries W c j⌝ ∗ owns (c : Thread nD τ) (st0_1 t) fullShare X))
  rw [show (dat0 W c).owesAt () t.succ = (dat0 W c).owesAt () t.castSucc from rfl]
  unfold Phi0
  iintro ⟨⟨⟨%Z, %hZ, HS⟩, Hr⟩, HO, ⟨%d, H0⟩, ⟨%Y, %hY, H1⟩⟩
  rw [before0]
  have hin : countIn (grid0.coords t) Z = countIn (F := F) (grid0.coords t) (fun _ => scr W c t.val) := by
    by_cases h0 : t.val = 0
    · have h1 : ((grid0.coords t) 1).val = 0 := by rw [hc.2, h0]
      rw [countIn, countIn, if_pos h1, if_pos h1]
    · rw [hZ h0]
  iapply (countRun c (grid0.coords t) (st0_0 t) _ (st0_1 t) _ (Memref.whole cc0_scratch0) _ (blk0 W c t) Y Z)
  isplitl [H0]; · iexact H0
  isplitl [H1]; · iexact H1
  isplitl [HS]; · iexact HS
  iintro ⟨H0, ⟨%Y', %hY', H1⟩, HS⟩
  isplitl [HS Hr]
  · isplitl [HS]
    · iexists _; isplitr; swap
      · iexact HS
      ipureintro; intro _
      funext y
      have hlt : t.val < cfg0.N := t.isLt
      rw [scr, dif_pos hlt, countOut, countOut, hin]
    · iexact Hr
  isplitl [HO]; · iexact HO
  isplitl [H0]; · iexact H0
  iexists Y'; isplitr; swap
  · iexact H1
  ipureintro; intro j hj
  have hj1 : (j 1).val < 12 := (j 1).isLt
  by_cases he : ptOf j = t.val
  · have e0 : (j 0).val = ((grid0.coords t) 0).val := by rw [hc.1]; unfold ptOf at he; omega
    have e1 : (j 1).val = ((grid0.coords t) 1).val := by rw [hc.2]; unfold ptOf at he; omega
    rw [hY'.1 j e0 e1, hin, carries]
    have : (⟨ptOf j, ptOf_lt j⟩ : Fin cfg0.N) = t := Fin.ext he
    rw [this, he]
  · rw [hY'.2 j ?_]
    · exact finds1 W c t Y hY j (by omega)
    · rintro ⟨e0, e1⟩
      rw [hc.1] at e0; rw [hc.2] at e1
      exact he (by unfold ptOf; omega)
end Cert.KernelIdeal.Hand
end
-- ==== Proof.KernelIdeal.MainBody.lean ====
/-
  The masking body, run once from its buffers: what it leaves in the masked-image block and in the mask block, as functions of the running
  count before the block and of the block it was given. Three cases: the limit is not reached in the block, it is passed in the block, or
  it was reached before it.
-/
module
public import proofs.«01_k».proof.Proof.KernelIdeal.Body
@[expose] public section
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UU) ℕ

/-- Whether the block that starts at running count `v` with contents `X` is the one where the kept count passes the limit. -/
def crosses (v : BitVec 32) (X : Vec F S1x32x192x384 .f32) : BitVec 1 :=
  Scalar.cmpi .ne (Scalar.extui (Scalar.andi (Scalar.cmpi .sgt (Scalar.addi v (Scalar.fptosi 32 (k1_pay3 X))) 20000#32) (Scalar.cmpi .slt v 20000#32)) : BitVec 32) 0#32

/-- What the main body leaves in the masked-image block. -/
def mainOut (v : BitVec 32) (X : Vec F S1x32x192x384 .f32) : Vec F S1x32x192x384 .f32 :=
  if k1_cond1 v = 1#1 then
    if crosses v X = 1#1 then k1_pay9 v X (k1_pay12 (k1_pay2 X)) (k1_pay13 (k1_pay2 X)) (k1_pay14 (k1_pay2 X)) (k1_pay15 (k1_pay2 X))
    else k1_pay6 v X
  else k1_pay11
/-- What the main body leaves in the mask block. -/
def mainMask (v : BitVec 32) (X : Vec F S1x32x192x384 .f32) : Vec F S1x32x384 .f32 :=
  if k1_cond1 v = 1#1 then
    if crosses v X = 1#1 then k1_pay8 v X (k1_pay12 (k1_pay2 X)) (k1_pay13 (k1_pay2 X)) (k1_pay14 (k1_pay2 X)) (k1_pay15 (k1_pay2 X))
    else k1_pay5 v X
  else k1_pay10

theorem conds (v : BitVec 32) : k1_cond3 v = 1#1 ↔ ¬ k1_cond1 v = 1#1 := by
  unfold k1_cond3 k1_cond1
  simp only [Scalar.cmpi, Scalar.extui, Scalar.xori]
  generalize IntOp.cmpi CmpIPredicate.sge v 20000#32 = b
  revert b; decide

theorem pos1 : 0 < S1x1.numel := by decide
theorem k1_off1_0 (i : grid1.Coords) : k1_off1 i 0 = (i 0).val := by revert i; decide
theorem k1_off1_1 (i : grid1.Coords) : k1_off1 i 1 = (i 1).val := by revert i; decide

/-- The table entry of a grid point. -/
def entry1 (i : grid1.Coords) : S4x12.Idx := (Rect.unit (s := S4x12) (k1_off1 i) S1x1.size (k1_off1_inb i)).emb (Shape.Idx.first (s := S1x1) pos1)

theorem mainRun (c : Dev nD) (i : grid1.Coords) (arg2 : Memref sig .tc .smem S4x12 .i32) (harg2 : arg2.IsWhole)
    (arg3 : Memref sig .tc .smem S4x12 .i32) (harg3 : arg3.IsWhole) (arg4 : Memref sig .tc .vmem S1x32x192x384 .f32) (harg4 : arg4.IsWhole)
    (arg5 : Memref sig .tc .vmem S1x32x192x384 .f32) (harg5 : arg5.IsWhole) (arg6 : Memref sig .tc .vmem S1x32x384 .f32) (harg6 : arg6.IsWhole)
    (T : Vec F S4x12 .i32) (X : Vec F S1x32x192x384 .f32) (Y5 : Vec F S1x32x192x384 .f32) (Y6 : Vec F S1x32x384 .f32) (K : PUnit → sProp 𝕄) :
    iprop(owns (c : Thread nD τ) arg2 fullShare T ∗ owns (c : Thread nD τ) arg4 fullShare X ∗ owns (c : Thread nD τ) arg5 fullShare Y5 ∗ owns (c : Thread nD τ) arg6 fullShare Y6
      ∗ (iprop(owns (c : Thread nD τ) arg2 fullShare T ∗ owns (c : Thread nD τ) arg4 fullShare X
          ∗ owns (c : Thread nD τ) arg5 fullShare (mainOut (T (entry1 i)) X) ∗ owns (c : Thread nD τ) arg6 fullShare (mainMask (T (entry1 i)) X)) -∗ K ⟨⟩))
      ⊢ wp frame (wpE (defs₀ (F := F)) Variants.none c none) Set.univ (cc1__main_body i arg2 harg2 arg3 harg3 arg4 harg4 arg5 harg5 arg6 harg6) K := by
  simp only [cc1__main_body_eq_skeleton]; unfold cc1__main_body_skel
  simp only [k1_part1_eq_skeleton]; unfold k1_part1_skel
  unfold owns
  iintro ⟨⟨%f2, %h2, H2⟩, ⟨%f4, %h4, H4⟩, ⟨%f5, %h5, H5⟩, ⟨%f6, %h6, H6⟩, Hk⟩
  have hT : T (entry1 i) = arg2.view.readAt (Elt F) (Rect.unit (s := S4x12) (k1_off1 i) S1x1.size (k1_off1_inb i)).toLoadRect f2 (Shape.Idx.first (s := S1x1) pos1) :=
    congrFun h2.symm _
  have hX : X = arg4.view.readAt (Elt F) (Rect.unit (s := S1x32x192x384) ![0, 0, 0, 0] S1x32x192x384.size inb_S1x32x192x384_S1x32x192x384_0_0_0_0).toLoadRect f4 :=
    ((readAt_origin _ _ _ (by decide) _).trans h4).symm
  rw [hT, hX]
  by_cases h1 : k1_cond1 (arg2.view.readAt (Elt F) (Rect.unit (s := S4x12) (k1_off1 i) S1x1.size (k1_off1_inb i)).toLoadRect f2 (Shape.Idx.first (s := S1x1) pos1)) = 1#1
  · have h3 : ¬ k1_cond3 (arg2.view.readAt (Elt F) (Rect.unit (s := S4x12) (k1_off1 i) S1x1.size (k1_off1_inb i)).toLoadRect f2 (Shape.Idx.first (s := S1x1) pos1)) = 1#1 := fun h => (conds _).mp h h1
    by_cases hx : crosses (arg2.view.readAt (Elt F) (Rect.unit (s := S4x12) (k1_off1 i) S1x1.size (k1_off1_inb i)).toLoadRect f2 (Shape.Idx.first (s := S1x1) pos1)) (arg4.view.readAt (Elt F) (Rect.unit (s := S1x32x192x384) ![0, 0, 0, 0] S1x32x192x384.size inb_S1x32x192x384_S1x32x192x384_0_0_0_0).toLoadRect f4) = 1#1
    · have hx' := hx
      unfold crosses at hx'
      rw [mainOut, mainMask, if_pos h1, if_pos hx, if_pos h1, if_pos hx]
      sl_exec
      sl_step
      iapply Hk
      isplitl [H2]
      · iexists _; isplitr; swap
        · iexact H2
        ipureintro; exact h2
      isplitl [H4]
      · iexists _; isplitr; swap
        · iexact H4
        ipureintro; exact h4.trans hX
      isplitl [H5]
      · iexists _; isplitr; swap
        · iexact H5
        ipureintro; exact read_writes_origin arg5.view f5 ![0, 0, 0, 0] (by decide) inb_S1x32x192x384_S1x32x192x384_0_0_0_0 _ _
      iexists _; isplitr; swap; · iexact H6
      ipureintro; exact read_writes_origin arg6.view f6 ![0, 0, 0] (by decide) inb_S1x32x384_S1x32x384_0_0_0 _ _
    · have hx' := hx
      unfold crosses at hx'
      rw [mainOut, mainMask, if_pos h1, if_neg hx, if_pos h1, if_neg hx]
      sl_exec
      sl_step
      iapply Hk
      isplitl [H2]
      · iexists _; isplitr; swap
        · iexact H2
        ipureintro; exact h2
      isplitl [H4]
      · iexists _; isplitr; swap
        · iexact H4
        ipureintro; exact h4.trans hX
      isplitl [H5]
      · iexists _; isplitr; swap
        · iexact H5
        ipureintro; exact read_writes_origin arg5.view f5 ![0, 0, 0, 0] (by decide) inb_S1x32x192x384_S1x32x192x384_0_0_0_0 _ _
      iexists _; isplitr; swap; · iexact H6
      ipureintro; exact read_writes_origin arg6.view f6 ![0, 0, 0] (by decide) inb_S1x32x384_S1x32x384_0_0_0 _ _
  · have h3 : k1_cond3 (arg2.view.readAt (Elt F) (Rect.unit (s := S4x12) (k1_off1 i) S1x1.size (k1_off1_inb i)).toLoadRect f2 (Shape.Idx.first (s := S1x1) pos1)) = 1#1 := (conds _).mpr h1
    rw [mainOut, mainMask, if_neg h1, if_neg h1]
    sl_exec
    sl_step
    iapply Hk
    isplitl [H2]
    · iexists _; isplitr; swap
      · iexact H2
      ipureintro; exact h2
    isplitl [H4]
    · iexists _; isplitr; swap
      · iexact H4
      ipureintro; exact h4.trans hX
    isplitl [H5]
    · iexists _; isplitr; swap
      · iexact H5
      ipureintro; exact read_writes_origin arg5.view f5 ![0, 0, 0, 0] (by decide) inb_S1x32x192x384_S1x32x192x384_0_0_0_0 _ _
    iexists _; isplitr; swap; · iexact H6
    ipureintro; exact read_writes_origin arg6.view f6 ![0, 0, 0] (by decide) inb_S1x32x384_S1x32x384_0_0_0 _ _
end Cert.KernelIdeal.Hand
end
-- ==== Proof.KernelIdeal.Main.lean ====
/-
  The second region: the grid of forty-eight points masks the image block by block. The first table's word says how many flags were
  counted before the block, the second which block of the image the point fetches. What the region leaves is a function of the two
  tables and of the image.
-/
module
public import proofs.«01_k».proof.Proof.KernelIdeal.MainBody
public import Idealize.ShloMosaic.Lib.Pipeline.Frame
public import Idealize.ShloMosaic.Lib.Pipeline.FrameBody
@[expose] public section
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)
variable {F : FTy → Type} [FloatOps F]
local notation "𝕄" => MT nD τ sig Unit (Elt F) ℕ (UU) ℕ

/-- The coordinates of a point of the second grid. -/
theorem coords1 : ∀ t : Fin grid1.N, ((grid1.coords t) 0).val = t.val / 12 ∧ ((grid1.coords t) 1).val = t.val % 12 := by decide +kernel

variable (W : Dev nD → Valuation τ sig (Elt F)) (a : (pcfg1 (F := F)).Adm)

/-- The table of running counts, as the region is entered with it. -/
abbrev tbl : Vec F S4x12 .i32 := a.1 0

/-- The block of the image that point `t` masks. -/
def blk1 (c : Dev nD) (t : Fin (cfg1 a).N) : Vec F S1x32x192x384 .f32 :=
  (((cfg1 a).win 0).blk t).view.read (Elt F) (W c (Pipeline.arrRef spec1 0))

/-- The region's data. -/
def dat1 (c : Dev nD) : Dat τ (Elt F) Unit ℕ (UU) ℕ (cfg1 a) c where
  A w := W c (Pipeline.arrRef spec1 w)
  after w t := match w with
    | ⟨0, _⟩ => blk1 W a c t
    | ⟨1, _⟩ => mainOut (tbl a (entry1 (grid1.coords t))) (blk1 W a c t)
    | ⟨2, _⟩ => mainMask (tbl a (entry1 (grid1.coords t))) (blk1 W a c t)
  Φ _ := iprop(Pipeline.scopedRest spec1 c ∗ Pipeline.prefHeld pre1 c (fun _ => fullShare) a.1)
  q _ := fullShare
  owed _ := 0

/-- No point leaves a window's buffer alone: one of the two branches always stores. -/
theorem idle1_false : ∀ (w : Fin 3) (i : grid1.Coords), (cfg1 a).idle w i = false := by
  have key : ∀ v : BitVec 32, (!(k1_cond1 v == 1#1) && !(k1_cond3 v == 1#1)) = false := fun v => by
    have h := conds v
    by_cases h1 : k1_cond1 v = 1#1
    · simp [h1]
    · simp [h.mpr h1]
  intro w i
  match w with
  | ⟨0, _⟩ => rfl
  | ⟨1, _⟩ => exact key _
  | ⟨2, _⟩ => exact key _

theorem before1 (c : Dev nD) (t : Fin (cfg1 a).N) (d : ((cfg1 a).win 0).block.Idx → Elt F ((cfg1 a).win 0).elt) :
    (dat1 W a c).before 0 t d = blk1 W a c t :=
  ((dat1 W a c).before_in_eq_fetched 0 rfl (idle1_false a 0) (fun _ _ _ => rfl) (fun _ => rfl) t d).trans rfl

theorem tables_eq (c : Dev nD) :
    (Pipeline.prefHeld pre1 c (fun _ => fullShare) a.1 : sProp 𝕄)
      = iprop(owns (c : Thread nD τ) (Memref.whole main_v17) fullShare (tbl a) ∗ ((c : Thread nD τ).loc main_v15) ↦{fullShare} (a.1 1)) := by
  rw [owns_whole]
  exact bigSep_univ_eq_bigSepL [(0 : Fin 2), (1 : Fin 2)] (by decide) (by decide) _

theorem body_obligation1 (c : Dev nD) : BodyObligation (dat1 W a c) (defs₀ (F := F)) Variants.none () Set.univ := fun t => by
  rw [bigSep_W1, bigSep_W1]
  have h1 : idle1 a.1 1 ((pcfg1.gridAt a.1).coords t) = false := idle1_false a 1 _
  simp only []
  rw [h1]
  show iprop(iprop(Pipeline.scopedRest spec1 c ∗ Pipeline.prefHeld pre1 c (fun _ => fullShare) a.1) ∗ (dat1 W a c).owesAt () t.castSucc
      ∗ (∃ d, owns (c : Thread nD τ) (stage1_0 ((cfg1 a).slots t 0)) fullShare ((dat1 W a c).before 0 t d))
      ∗ (∃ d, owns (c : Thread nD τ) (stage1_1 ((cfg1 a).slots t 1)) fullShare ((dat1 W a c).before 1 t d))
      ∗ (∃ d, owns (c : Thread nD τ) (stage1_2 ((cfg1 a).slots t 2)) fullShare ((dat1 W a c).before 2 t d)))
    ⊢ wp frame (wpE (defs₀ (F := F)) Variants.none c none) Set.univ (cc1__main_body (grid1.coords t) (Memref.whole main_v17) (Memref.isWhole_whole _) (Memref.whole main_v15) (Memref.isWhole_whole _) (stage1_0 ((cfg1 a).slots t 0)) (hstage1_0 _) (stage1_1 ((cfg1 a).slots t 1)) (hstage1_1 _) (stage1_2 ((cfg1 a).slots t 2)) (hstage1_2 _)) fun _ =>
      iprop(iprop(Pipeline.scopedRest spec1 c ∗ Pipeline.prefHeld pre1 c (fun _ => fullShare) a.1) ∗ (dat1 W a c).owesAt () t.castSucc
        ∗ owns (c : Thread nD τ) (stage1_0 ((cfg1 a).slots t 0)) fullShare (blk1 W a c t)
        ∗ owns (c : Thread nD τ) (stage1_1 ((cfg1 a).slots t 1)) fullShare (mainOut (tbl a (entry1 (grid1.coords t))) (blk1 W a c t))
        ∗ owns (c : Thread nD τ) (stage1_2 ((cfg1 a).slots t 2)) fullShare (mainMask (tbl a (entry1 (grid1.coords t))) (blk1 W a c t)))
  rw [tables_eq]
  iintro ⟨⟨Hr, HT, Hf⟩, HO, ⟨%d, H0⟩, ⟨%d1, H1⟩, ⟨%d2, H2⟩⟩
  rw [before1]
  iapply (mainRun c (grid1.coords t) (Memref.whole main_v17) (Memref.isWhole_whole _) (Memref.whole main_v15) (Memref.isWhole_whole _)
    (stage1_0 ((cfg1 a).slots t 0)) _ (stage1_1 ((cfg1 a).slots t 1)) _ (stage1_2 ((cfg1 a).slots t 2)) _
    (tbl a) (blk1 W a c t) _ _)
  isplitl [HT]; · iexact HT
  isplitl [H0]; · iexact H0
  isplitl [H1]; · iexact H1
  isplitl [H2]; · iexact H2
  iintro ⟨HT, H0, H1, H2⟩
  isplitl [Hr HT Hf]
  · isplitl [Hr]; · iexact Hr
    isplitl [HT]; · iexact HT
    iexact Hf
  isplitl [HO]; · iexact HO
  isplitl [H0]; · iexact H0
  isplitl [H1]; · iexact H1
  iexact H2
end Cert.KernelIdeal.Hand
end
-- ==== Proof.KernelIdeal.Host.lean ====
/-
  The host code between the two regions: from the table of running counts it makes, per batch, the last block that is still needed, and from
  that the block each point of the second region fetches; and it passes the table of running counts on.
-/
module
public import proofs.«01_k».proof.Proof.Gen.KernelIdeal.Regions
@[expose] public section
noncomputable section
namespace Cert.KernelIdeal.Hand
open Cert.KernelIdeal Cert.KernelIdeal.Gen
open Idealize.ShloMosaic Idealize.ShloMosaic.TcCoe
open Idealize.SL Idealize.SL.Sem
variable {F : FTy → Type} [FloatOps F]

/-- Per batch, the last block with an entry under the limit (or 0). -/
def lastNeeded (T : Vec F S4x12 .i32) : Vec F S4 .i32 :=
  maxsi
    (subi
      (Host.reduce IntOp.addi
        (extui 32
          (cmpi CmpIPredicate.slt T (broadcastInDim S4x12 ![] bcast_S_S4x12 (constantI S_ 32 20000#32)))
          natLt_1_32)
        (constantI S_ 32 0#32) reducesTo_S4x12_S4_d1 h_S_)
      (broadcastInDim S4 ![] bcast_S_S4 (constantI S_ 32 1#32)))
    (broadcastInDim S4 ![] bcast_S_S4 (constantI S_ 32 0#32))

/-- The block each point fetches: its own, or the last needed one. -/
def fetchOf (T : Vec F S4x12 .i32) : Vec F S4x12 .i32 :=
  minsi
    (broadcastInDim S4x12 ![0, 1] bcast_S1x12_S4x12_0_1 (broadcastInDim S1x12 ![1] bcast_S12_S1x12_1 (iotaInDim S12 32 0)))
    (broadcastInDim S4x12 ![0, 1] bcast_S4x1_S4x12_0_1 (broadcastInDim S4x1 ![0] bcast_S4_S4x1_0 (lastNeeded T)))

/-- The batch of a table entry. -/
def rowOf (j : S4x12.Idx) : S4.Idx := fun k => match k with | ⟨0, _⟩ => ⟨(j 0).val, (j 0).isLt⟩

theorem fetchOf_apply (T : Vec F S4x12 .i32) (j : S4x12.Idx) :
    fetchOf T j = IntOp.minsi (BitVec.ofNat 32 (j 1).val) (lastNeeded T (rowOf j)) := by
  unfold fetchOf
  generalize lastNeeded T = L
  show IntOp.minsi (BitVec.ofNat 32 (j 1).val) (L _) = IntOp.minsi (BitVec.ofNat 32 (j 1).val) (L _)
  congr 1
  exact congrArg L (funext fun k => by match k with | ⟨0, _⟩ => rfl)

theorem v17_eq (V : Valuation τ sig (Elt F)) : StableHlo.after hostOps1 V (main_v17 : Ref sig .tc) = V (main_v1 : Ref sig .tc) := by
  after_results
  funext j
  exact BitVec.add_zero _

theorem v15_eq (V : Valuation τ sig (Elt F)) : StableHlo.after hostOps1 V (main_v15 : Ref sig .tc) = fetchOf (F := F) (V (main_v1 : Ref sig .tc)) := by
  after_results
  rfl

theorem minsi_lt (n : ℕ) (hn : n < 12) (z : BitVec 32) : (IntOp.minsi (BitVec.ofNat 32 n) (IntOp.maxsi z 0#32)).toNat < 12 := by
  have h1 : (BitVec.ofNat 32 n).toNat = n := by rw [BitVec.toNat_ofNat]; omega
  have h2 : (BitVec.ofNat 32 n).toInt = n := by rw [BitVec.toInt_eq_toNat_of_lt (by omega), h1]
  have h0 : (0#32 : BitVec 32).toInt = 0 := by decide
  have hz := z.isLt
  have hz' := BitVec.toInt_eq_toNat_cond z
  unfold IntOp.minsi IntOp.maxsi
  simp only [BitVec.slt, h0]
  split <;> split <;> simp_all <;> omega

theorem fetchOf_lt (T : Vec F S4x12 .i32) (j : S4x12.Idx) : (fetchOf T j).toNat < 12 := by
  rw [fetchOf_apply]
  exact minsi_lt _ (j 1).isLt _
end Cert.KernelIdeal.Hand
end
-- ==== Proof.KernelIdeal.Run.lean ====
/-
  The whole run: the first host operation, the counting region, the host code between, the masking region, the last host operations. Every
  execution ends; the argument is as it was, every semaphore counter is zero, and the two results are what the valuations below say.
-/
module
public import proofs.«01_k».proof.Proof.KernelIdeal.Count
public import proofs.«01_k».proof.Proof.KernelIdeal.Main
public import proofs.«01_k».proof.Proof.KernelIdeal.Host
public import Idealize.ShloMosaic.Lib.Pipeline.RegionArrays
public import Idealize.ShloMosaic.Lib.Pipeline.RegionArraysS
public import Idealize.ShloMosaic.Lib.Pipeline.RegionArraysT
public import Idealize.ShloMosaic.Lib.Pipeline.FrameTail
@[expose] public section
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
variable {F : FTy → Type} [FloatOps F]
local notation "𝕄" => MT nD τ sig Unit (Elt F) ℕ (UU) ℕ

variable (m : (ℓ : Loc nD τ sig) → Buf (Elt F) ℓ)

/-! ## The buffers between the items -/

/-- When the counting region is entered; -/
abbrev W1 (c : Dev nD) : Valuation τ sig (Elt F) := Gen.V1 m c
/-- when it is left: the table of running counts written; -/
def W2 (c : Dev nD) : Valuation τ sig (Elt F) := Function.update (W1 m c) main_v1 (carries (W1 m) c)
/-- when the masking region is entered. -/
abbrev W3 (c : Dev nD) : Valuation τ sig (Elt F) := StableHlo.after hostOps1 (W2 m c)

/-- The tables the masking region is entered with. -/
def tables (c : Dev nD) : pre1.Contents (Elt F) := fun k => W3 m c (pre1.ref k)

theorem tables_ok (c : Dev nD) : ok1 (tables m c) := fun i =>
  ⟨fun a => by
    have h1 : (tables m c 1 (entry1 i) : BitVec 32).toNat < 12 := by
      show (W3 m c (main_v15 : Ref sig .tc) (entry1 i) : BitVec 32).toNat < 12
      rw [W3, v15_eq]
      exact fetchOf_lt _ _
    have h0 : (BitVec.ofNat 32 (i 0).val).toNat < 4 := by
      have : (i 0).val < 4 := (i 0).isLt
      rw [BitVec.toNat_ofNat]; omega
    match a with
    | ⟨0, _⟩ => show ((BitVec.ofNat 32 (i 0).val).toNat + 1) * 1 ≤ 4; omega
    | ⟨1, _⟩ => show ((tables m c 1 (entry1 i) : BitVec 32).toNat + 1) * 32 ≤ 384; omega
    | ⟨2, _⟩ => exact (by decide : (0 + 1) * 192 ≤ 192)
    | ⟨3, _⟩ => exact (by decide : (0 + 1) * 384 ≤ 384), .inl rfl⟩

/-- The one core. -/
abbrev core : Dev nD := ⟨0, by decide⟩
theorem core_eq (c : Dev nD) : c = core := Subsingleton.elim _ _

/-- The tables the masking region runs at. -/
def a1 : (pcfg1 (F := F)).Adm := ⟨tables m core, tables_ok m core⟩

/-- When the masking region is left. -/
def W4 (c : Dev nD) : Valuation τ sig (Elt F) := Pipeline.afterRegion (dat1 (W3 m) (a1 m) c) (W3 m c)
/-- At the end. -/
abbrev W5 (c : Dev nD) : Valuation τ sig (Elt F) := StableHlo.after hostOps2 (W4 m c)

/-! ## The pipelines' data -/

def adm : (p : Fin 2) → (pcfgs (F := F) p).Adm := fun | ⟨0, _⟩ => cfg0.toPCfg_adm | ⟨1, _⟩ => a1 m

def pdats : (p : Fin 2) → (c : Dev nD) → Dat τ (Elt F) Unit ℕ (UU) ℕ (Pipeline.pin (pcfgs (F := F)) (adm m) p) c :=
  fun | ⟨0, _⟩ => fun c => dat0 (W1 m) c | ⟨1, _⟩ => fun c => dat1 (W3 m) (a1 m) c

def rdats : (p : Fin 2) → (c : Dev nD) → RDat τ (Elt F) Unit ℕ (UU) ℕ (Pipeline.pin (pcfgs (F := F)) (adm m) p) c :=
  fun | ⟨0, _⟩ => fun c => rdat0 (W1 m) c | ⟨1, _⟩ => fun c => (dat1 (W3 m) (a1 m) c).toR

/-- What a core holds beside its buffers: that it owes nothing. -/
abbrev Rest (c : Dev nD) : sProp 𝕄 := iprop(∃ Wt, owes (c : Thread nD τ) (0 : CellTallies nD τ sig Unit) Wt)
abbrev LV : GSem nD τ sig → Finset Unit := fun _ => ∅
abbrev lvl : GSem nD τ sig → Unit → ℕ := fun _ _ => 0

/-! ## The counting region's arrays -/

theorem point47 : (47 : ℕ) < cfg0.N := by show 47 < grid0.N; rw [N_0]; decide

theorem whole47 : (cfg0.win 1).WholeAt ⟨47, point47⟩ := by
  refine ⟨(flush0_1 _).mpr rfl, fun t h => ?_, fun a => ?_⟩
  · have := (flush0_1 t).mp h
    have ht : t.val < 48 := by have := t.isLt; have e : cfg0.N = 48 := N_0; omega
    exact Fin.ext (by show t.val = 47; omega)
  · match a with
    | ⟨0, _⟩ => exact ⟨rfl, rfl⟩
    | ⟨1, _⟩ => exact ⟨rfl, rfl⟩

theorem arr0 (c : Dev nD) : ∀ (w : Fin cfg0.W) (G : Buf (Elt F) ((cfg0.win w).arr.view.loc (c : Thread nD τ))),
    (rdat0 (W1 m) c).ArrAt w cfg0.N G → G = W2 m c (Pipeline.arrRef spec0 w) := by
  intro w G hG
  match w, G, hG with
  | ⟨0, _⟩, G, hG =>
    have h := (rdat0 (W1 m) c).ArrAt_in 0 rfl cfg0.N
    have h' : G = (rdat0 (W1 m) c).A 0 := Eq.mp (congrFun h G) hG
    rw [h']
    show W1 m c main_v0 = Function.update (W1 m c) main_v1 (carries (W1 m) c) main_v0
    rw [Function.update_of_ne (StableHlo.devRef_ne_of_ne (by decide) : (Proc.devRef .tc main_v0 : DevRef τ sig) ≠ Proc.devRef .tc main_v1)]
  | ⟨1, _⟩, G, hG =>
    obtain ⟨X, hX, hj⟩ := RDat.ArrAt.emb_eq_of_wholeAt (rd := rdat0 (W1 m) c) (w := 1) hG whole47
    have hr := (dat0 (W1 m) c).toRRel_leaves (fgt := fgt0) (Rl := Rl0 (W1 m) c) (w := 1) (by decide) hX
    show G = Function.update (W1 m c) main_v1 (carries (W1 m) c) main_v1
    rw [Function.update_self]
    funext j
    refine (hj j).trans ?_
    have : ptOf j ≤ 47 := by have := ptOf_lt j; have e : cfg0.N = 48 := N_0; omega
    exact hr j this

end Cert.KernelIdeal.Hand
end
-- ==== Proof.KernelIdeal.Regs.lean ====
/-
  The two regions as segments of the program, and the run of the whole program.
-/
module
public import proofs.«01_k».proof.Proof.KernelIdeal.Run
@[expose] public section
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
variable {F : FTy → Type} [FloatOps F]
local notation "𝕄" => MT nD τ sig Unit (Elt F) ℕ (UU) ℕ

variable (m : (ℓ : Loc nD τ sig) → Buf (Elt F) ℓ)

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)
theorem subT : Pipeline.tblRefs (τ := τ) pre1 ⊆ Pipeline.ucRefs τ sig := Pipeline.tblRefs_sub_ucRefs pre1 (by decide)

/-- The counting region's arrays, held at a valuation. -/
theorem held0 (c : Dev nD) (V : Valuation τ sig (Elt F)) :
    ((rdat0 (W1 m) c).arrays (fun w => V (Pipeline.arrRef spec0 w)) : sProp 𝕄) = StableHlo.held (c : Thread nD τ) (Pipeline.arrRefs spec0) V :=
  Pipeline.arrays_held (pcfgs (F := F)) (adm m) (pdats m) 0 launch0 c (fun _ => ite_self _) (fun w => V (Pipeline.arrRef spec0 w)) V (fun _ => rfl)

/-- The masking region's arrays, held at a valuation. -/
theorem held1 (c : Dev nD) (V : Valuation τ sig (Elt F)) :
    ((dat1 (W3 m) (a1 m) c).arrays (fun w => V (Pipeline.arrRef spec1 w)) : sProp 𝕄) = StableHlo.held (c : Thread nD τ) (Pipeline.arrRefs spec1) V :=
  Pipeline.arrays_held (pcfgs (F := F)) (adm m) (pdats m) 1 launch1 c (fun _ => ite_self _) (fun w => V (Pipeline.arrRef spec1 w)) V (fun _ => rfl)

/-- At the counting region's end its arrays are at `W2`. -/
theorem arraysEnd0 (c : Dev nD) :
    (rdat0 (W1 m) c).arraysAt cfg0.N ⊢ ((rdat0 (W1 m) c).arrays (fun w => W2 m c (Pipeline.arrRef spec0 w)) : sProp 𝕄) := by
  unfold RDat.arraysAt RDat.arrays
  refine BI.bigSep_mono fun w _ => ?_
  show (iprop(∃ G, ⌜(rdat0 (W1 m) c).ArrAt w cfg0.N G⌝ ∗ View.loc (c : Thread nD τ) (cfg0.win w).arr.view ↦[(cfg0.win w).arr.view.set]{(rdat0 (W1 m) c).share w} G) : sProp 𝕄)
    ⊢ (View.loc (c : Thread nD τ) (cfg0.win w).arr.view ↦[(cfg0.win w).arr.view.set]{(rdat0 (W1 m) c).share w} W2 m c (Pipeline.arrRef spec0 w))
  iintro ⟨%G, %hG, H⟩
  have e := arr0 m c w G hG
  subst e
  iexact H

theorem off0 (c : Dev nD) : (StableHlo.held (c : Thread nD τ) (Pipeline.ucRefs τ sig \ Pipeline.arrRefs spec0) (W2 m c) : sProp 𝕄)
    = StableHlo.held (c : Thread nD τ) (Pipeline.ucRefs τ sig \ Pipeline.arrRefs spec0) (W1 m c) :=
  StableHlo.held_congr _ fun b hb => by
    unfold W2
    refine Function.update_of_ne (fun e => (Finset.mem_sdiff.mp hb).2 ?_) _ _
    exact Finset.mem_map.mpr ⟨_, Finset.mem_image.mpr ⟨(1 : Fin 2), Finset.mem_univ _, rfl⟩, e.symm⟩

set_option backward.isDefEq.respectTransparency.types false in
/-- The counting region. -/
def reg0 : Pipeline.RDat.RegionSeg (pcfgs (F := F)) (adm m) (rdats m) () defs₀ Variants.none LV lvl 0 where
  win := launch0.win.to₀
  block_pos := block_pos0
  stage_whole := stage_whole0
  K := PEmpty
  osem k := k.elim
  ho := Pipeline.OwnSemFacts.none _
  hbody c := (body_obligation0 (W1 m) c).toRRel
  hwaits := Pipeline.RDat.hwaits_of_owed_zero _ _ _ _ LV lvl 0 (fun _ _ => rfl)
  pre c := iprop(StableHlo.held (c : Thread nD τ) (Pipeline.ucRefs τ sig) (W1 m c) ∗ Rest c)
  post c := iprop(StableHlo.held (c : Thread nD τ) (Pipeline.ucRefs τ sig) (W2 m c) ∗ Rest c)
  X _ := BI.emp
  Y _ := BI.emp
  Z c := StableHlo.held (c : Thread nD τ) (Pipeline.ucRefs τ sig \ Pipeline.arrRefs spec0) (W1 m c)
  hentry c := by
    show _ ⊢ |={Set.univ}=> iprop((rdat0 (W1 m) c).arrays (fun w => W1 m c (Pipeline.arrRef spec0 w)) ∗ _ ∗ (rdat0 (W1 m) c).owesAt () 0 ∗ _ ∗ _)
    rw [Pipeline.ownSems0_none, held0, StableHlo.held_sub_split (c : Thread nD τ) sub0 (W1 m c), Pipeline.prefHeld_of_none _ rfl]
    iintro ⟨⟨⟨Ha, Hz⟩, HO⟩, -, -⟩
    imodintro
    isplitl [Ha]; · iexact Ha
    isplitr; · iempintro
    isplitl [HO]
    · unfold RDat.owesAt Pipeline.owesWithin
      icases HO with ⟨%Wt, HO⟩; iexists Wt; isplitr; · ipureintro; exact fun _ _ => Or.inl trivial
      iexact HO
    isplitr; · iempintro
    iexact Hz
  hin c := by
    show _ ⊢ Phi0 (W1 m) c 0
    rw [Pipeline.prefHeld_of_none _ rfl]
    show iprop(BI.emp ∗ BI.emp ∗ Pipeline.scopedRest spec0 c) ⊢ _
    rw [scopedRest0_eq]
    unfold Phi0
    iintro ⟨-, -, H1, H2, H3, H4, H5, H6, ⟨%f, Hs⟩⟩
    isplitl [Hs]
    · iexists f
      isplitr; · ipureintro; exact fun h => absurd rfl h
      rw [owns_whole]
      iexact Hs
    isplitl [H1]; · iexact H1
    isplitl [H2]; · iexact H2
    isplitl [H3]; · iexact H3
    isplitl [H4]; · iexact H4
    isplitl [H5]; · iexact H5
    iexact H6
  hout c := by
    show Phi0 (W1 m) c _ ⊢ iprop(_ ∗ _ ∗ Pipeline.scopedRest spec0 c)
    rw [Pipeline.ownSems0_none, scopedRest0_eq]
    unfold Phi0
    iintro ⟨⟨%Z, -, Hs⟩, H1, H2, H3, H4, H5, H6⟩
    isplitr; · iempintro
    isplitr; · iempintro
    isplitl [H1]; · iexact H1
    isplitl [H2]; · iexact H2
    isplitl [H3]; · iexact H3
    isplitl [H4]; · iexact H4
    isplitl [H5]; · iexact H5
    isplitl [H6]; · iexact H6
    iexists Z
    ihave Hs' := (BIBase.Entails.of_eq (owns_whole (c : Thread nD τ) cc0_scratch0 fullShare Z)) $$ Hs
    iexact Hs'
  hexit c := by
    show iprop((rdat0 (W1 m) c).arraysAt cfg0.N ∗ (rdat0 (W1 m) c).owesAt () (Fin.last cfg0.N) ∗ _ ∗ _) ⊢ _
    rw [StableHlo.held_sub_split (c : Thread nD τ) sub0 (W2 m c), off0, ← held0]
    iintro ⟨Ha, HO, -, Hz⟩
    ihave Ha' := (arraysEnd0 m c) $$ Ha
    imodintro
    isplitl [Ha' Hz]
    · isplitl [Ha']; · iexact Ha'
      iexact Hz
    unfold RDat.owesAt Pipeline.owesWithin
    icases HO with ⟨%Wt, -, HO⟩; iexists Wt; iexact HO

theorem tables_held (c : Dev nD) (V : Valuation τ sig (Elt F)) (h : ∀ k, (a1 m).1 k = V (pre1.ref k)) :
    (Pipeline.prefHeld pre1 c (fun _ => fullShare) (a1 m).1 : sProp 𝕄) = StableHlo.held (c : Thread nD τ) (Pipeline.tblRefs pre1) V :=
  Pipeline.prefHeld_held pre1 preFacts1.inj c _ V h

theorem tblW3 (c : Dev nD) (k : Fin pre1.K) : (a1 m).1 k = W3 m c (pre1.ref k) := by rw [core_eq c]; rfl
theorem tblW4 (c : Dev nD) (k : Fin pre1.K) : (a1 m).1 k = W4 m c (pre1.ref k) :=
  (tblW3 m c k).trans (Pipeline.afterRegion_of_not_arr (dat1 (W3 m) (a1 m) c) (W3 m c) (preFacts1.disj k)).symm

/-- The buffers that the masking region does not touch. -/
abbrev others : Finset (DevRef τ sig) := (Pipeline.ucRefs τ sig \ Pipeline.arrRefs spec1) \ Pipeline.tblRefs pre1

theorem split1 (c : Dev nD) (V : Valuation τ sig (Elt F)) :
    (StableHlo.held (c : Thread nD τ) (Pipeline.ucRefs τ sig) V : sProp 𝕄)
      = iprop(StableHlo.held (c : Thread nD τ) (Pipeline.arrRefs spec1) V ∗ StableHlo.held (c : Thread nD τ) (Pipeline.tblRefs pre1) V
          ∗ StableHlo.held (c : Thread nD τ) others V) := by
  rw [StableHlo.held_sub_split (c : Thread nD τ) sub1 V,
    StableHlo.held_sub_split (c : Thread nD τ) (Pipeline.tblRefs_sub_sdiff spec1 pre1 preFacts1.disj subT) V]

theorem off1 (c : Dev nD) : (StableHlo.held (c : Thread nD τ) others (W4 m c) : sProp 𝕄) = StableHlo.held (c : Thread nD τ) others (W3 m c) :=
  StableHlo.held_congr _ fun b hb =>
    Pipeline.afterRegion_off (dat1 (W3 m) (a1 m) c) (W3 m c) (Pipeline.ucRefs τ sig) b (Finset.mem_sdiff.mp hb).1

theorem arraysEnd1 (c : Dev nD) :
    (dat1 (W3 m) (a1 m) c).toR.arraysAt (cfg1 (a1 m)).N ⊢ ((dat1 (W3 m) (a1 m) c).arrays (fun w => W4 m c (Pipeline.arrRef spec1 w)) : sProp 𝕄) := by
  refine ((dat1 (W3 m) (a1 m) c).toR_arraysAt_post _).trans (BIBase.Entails.of_eq (congrArg _ (funext fun w => ?_)))
  exact (Pipeline.afterRegion_arr (dat1 (W3 m) (a1 m) c) (W3 m c) winFacts1.arr_inj w).symm

set_option backward.isDefEq.respectTransparency.types false in
/-- The masking region. -/
def reg1 : Pipeline.RDat.RegionSeg (pcfgs (F := F)) (adm m) (rdats m) () defs₀ Variants.none LV lvl 1 where
  win := launch1.win.to₀
  block_pos := block_pos1
  stage_whole := stage_whole1
  K := PEmpty
  osem k := k.elim
  ho := Pipeline.OwnSemFacts.none _
  hbody c := (body_obligation1 (W3 m) (a1 m) c).toR
  hwaits := Pipeline.RDat.hwaits_of_owed_zero _ _ _ _ LV lvl 1 (fun _ _ => rfl)
  pre c := iprop(StableHlo.held (c : Thread nD τ) (Pipeline.ucRefs τ sig) (W3 m c) ∗ Rest c)
  post c := iprop(StableHlo.held (c : Thread nD τ) (Pipeline.ucRefs τ sig) (W4 m c) ∗ Rest c)
  X _ := BI.emp
  Y c := Pipeline.prefHeld pre1 c (fun _ => fullShare) (a1 m).1
  Z c := StableHlo.held (c : Thread nD τ) others (W3 m c)
  hentry c := by
    show _ ⊢ |={Set.univ}=> iprop((dat1 (W3 m) (a1 m) c).arrays (fun w => W3 m c (Pipeline.arrRef spec1 w))
      ∗ Pipeline.prefHeld pre1 c (fun _ => fullShare) (a1 m).1 ∗ (dat1 (W3 m) (a1 m) c).owesAt () 0 ∗ _ ∗ _)
    rw [Pipeline.ownSems0_none, held1, split1, tables_held m c (W3 m c) (tblW3 m c)]
    iintro ⟨⟨⟨Ha, Ht, Hz⟩, HO⟩, -, -⟩
    imodintro
    isplitl [Ha]; · iexact Ha
    isplitl [Ht]; · iexact Ht
    isplitl [HO]
    · unfold Dat.owesAt Pipeline.owesWithin
      icases HO with ⟨%Wt, HO⟩; iexists Wt; isplitr; · ipureintro; exact fun _ _ => Or.inl trivial
      iexact HO
    isplitr; · iempintro
    iexact Hz
  hin c := by
    show iprop(BI.emp ∗ Pipeline.prefHeld pre1 c (fun _ => fullShare) (a1 m).1 ∗ Pipeline.scopedRest spec1 c)
      ⊢ iprop(Pipeline.scopedRest spec1 c ∗ Pipeline.prefHeld pre1 c (fun _ => fullShare) (a1 m).1)
    iintro ⟨-, Ht, Hr⟩
    isplitl [Hr]; · iexact Hr
    iexact Ht
  hout c := by
    show iprop(Pipeline.scopedRest spec1 c ∗ Pipeline.prefHeld pre1 c (fun _ => fullShare) (a1 m).1)
      ⊢ iprop(Pipeline.prefHeld pre1 c (fun _ => fullShare) (a1 m).1 ∗ _ ∗ Pipeline.scopedRest spec1 c)
    rw [Pipeline.ownSems0_none]
    iintro ⟨Hr, Ht⟩
    isplitl [Ht]; · iexact Ht
    isplitr; · iempintro
    iexact Hr
  hexit c := by
    show iprop((dat1 (W3 m) (a1 m) c).toR.arraysAt (cfg1 (a1 m)).N ∗ (dat1 (W3 m) (a1 m) c).owesAt () (Fin.last (cfg1 (a1 m)).N)
      ∗ Pipeline.prefHeld pre1 c (fun _ => fullShare) (a1 m).1 ∗ _) ⊢ _
    rw [split1, off1, ← held1, tables_held m c (W4 m c) (tblW4 m c)]
    iintro ⟨Ha, HO, Ht, Hz⟩
    ihave Ha' := (arraysEnd1 m c) $$ Ha
    imodintro
    isplitl [Ha' Ht Hz]
    · isplitl [Ha']; · iexact Ha'
      isplitl [Ht]; · iexact Ht
      iexact Hz
    unfold Dat.owesAt Pipeline.owesWithin
    icases HO with ⟨%Wt, -, HO⟩; iexists Wt; iexact HO

/-- The program's segments. -/
abbrev parts : List (Pipeline.RDat.Seg (pcfgs (F := F)) (adm m) (rdats m) () defs₀ Variants.none LV lvl) :=
  [.host (HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (V0 m) Rest),
   .region (reg0 m),
   .host (HostSeg.ofOps _ _ _ _ _ (Pipeline.ucRefs τ sig) hostOps1
      (fun op h => Pipeline.sub_ucRefs op ((List.forall_iff_forall_mem.mp hostOps1_sub) op h))
      (fun op h => (List.forall_iff_forall_mem.mp hostOps1_fresh) op h) (W2 m) Rest),
   .region (reg1 m),
   .host (HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (W4 m) Rest)]

abbrev EPL : Emb (URounds (GSem nD τ sig) Unit) 𝕄 := embL

/-- The launch's ghost element. -/
def ghost0 : UU :=
  (initOf (Pipeline.cells (Pipeline.pin (pcfgs (F := F)) (adm m)) (cellOf_inj (adm m))) (Pipeline.launchToks (Pipeline.pin (pcfgs (F := F)) (adm m)) (cellOf_inj (adm m))), 1)

theorem ghost0_yields : (ownU (ghost0 m) : sProp 𝕄) ⊢ |={Set.univ}=> iprop(BI.own (EPL (initOf (Pipeline.cells (Pipeline.pin (pcfgs (F := F)) (adm m)) (cellOf_inj (adm m)))
    (Pipeline.launchToks (Pipeline.pin (pcfgs (F := F)) (adm m)) (cellOf_inj (adm m))))) ∗ bigSep Finset.univ fun _ : Dev nD => BI.emp) := by
  unfold ghost0
  iintro Hu
  ihave H := (ownU_pair _ _) $$ Hu
  icases H with ⟨HP, -⟩
  imodintro
  isplitl [HP]; · iexact HP
  iapply (show (BI.emp : sProp 𝕄) ⊢ bigSep (Finset.univ : Finset (Dev nD)) (fun _ => BI.emp) from by rw [BI.bigSep_emp_const])
  iempintro

set_option backward.isDefEq.respectTransparency.types false in
/-- Every execution ends, with every unscoped buffer at its last valuation and every semaphore at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = W5 m c b) ∧ r.2.sem = fun _ => 0) := by
  refine Pipeline.RDat.θ_run_regions_kit_sems (pcfgs (F := F)) (adm m) (rdats m) () (cellOf_inj (adm m)) EPL defs₀ Variants.none LV lvl m ρ main
    (parts m)
    (fun c Q => by
      rewrite [main_chain c, Pipeline.RDat.Seg.run_eq_chain,
        show (parts m).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (by simp only [parts, Pipeline.RDat.Seg.pipes_host, Pipeline.RDat.Seg.pipes_region, Pipeline.RDat.Seg.pipes_nil]; decide) 0 (fun _ _ => rfl) (fun _ => BI.emp) (ghost0 m) (ghost0_yields m)
    (T₀ := fun c => iprop(StableHlo.held (c : Thread nD τ) (Pipeline.ucRefs τ sig) (V0 m c) ∗ Rest c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := ?_) (QY := fun c s => ∀ b ∈ Pipeline.ucRefs τ sig, s.mem ((c : Thread nD τ).1, b) = W5 m c b)
    (hfin := fun c s' => ?_) (hQ := fun _ h hz => ⟨h, funext fun g => hz g (.inr (regions_no_unscoped g.2))⟩)
  · refine (sep_mono (bigSep_mono (Ψ := fun c : Dev nD => iprop(StableHlo.held (c : Thread nD τ) (Pipeline.ucRefs τ sig) (V0 m c) ∗ Rest c)) fun c _ => ?_) .rfl).trans ?_
    · rw [← Pipeline.unscopedBufs_held (Ix := Unit) (Name := ℕ) (U := UU) (Lvl := ℕ) c (V0 m c)]
      show (iprop((unscopedBufs c fun b => m ((c : Thread nD τ).loc b)) ∗ unscopedSems0 c ∗ owes (c : Thread nD τ) 0 ∅
        ∗ Pipeline.launchCred (0 : Dev nD → CellTallies nD τ sig Unit) c ∗ prngReg c (ρ c) ∗ BI.emp) : sProp 𝕄)
        ⊢ iprop((unscopedBufs c fun b => V0 m c (Proc.tc.devRef b)) ∗ Rest c)
      iintro ⟨H, -, HO, -⟩
      isplitl [H]; · iexact H
      iexists ∅
      iexact HO
    · iintro ⟨H, -⟩
      imodintro
      iexact H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    · iexact HSI

/-- A buffer read off the run's end. -/
theorem mem_uc (r : Ref sig .tc) (h : ¬ (Proc.devRef .tc r : DevRef τ sig).isScoped = true) : (Proc.devRef .tc r : DevRef τ sig) ∈ Pipeline.ucRefs τ sig :=
  Finset.mem_filter.mpr ⟨StableHlo.devRef_mem_tcRefs r, h⟩

/-- The image is never written. -/
theorem W5_arg0 (c : Dev nD) : W5 m c main_arg0 = m ((c : Thread nD τ).loc main_arg0) :=
  (StableHlo.after_of_writes_sub hostOps2 _ hostOps2_writes (by decide)).trans <|
  (Pipeline.afterRegion_of_not_arr (dat1 (W3 m) (a1 m) c) (W3 m c) (show ∀ w, main_arg0 ≠ Pipeline.arrRef spec1 w by decide)).trans <|
  (StableHlo.after_of_writes_sub hostOps1 _ hostOps1_writes (by decide)).trans <|
  (by unfold W2; exact Function.update_of_ne (StableHlo.devRef_ne_of_ne (by decide)) _ _ : W2 m c main_arg0 = W1 m c main_arg0).trans <|
  V1_of m c main_arg0 (by decide)

/-- Every execution ends with the results at the last valuation, the image unchanged and every semaphore at zero. -/
theorem run_main (ρ : Dev nD → PrngReg) :
    θ_run defs (onTc (τ := τ) (main (F := F))) ⟨m, fun _ => 0, ρ⟩ (fun r =>
      (∀ c : Dev nD, r.2.mem ((c.tc : Thread nD τ).loc main_v19) = W5 m c main_v19
        ∧ r.2.mem ((c.tc : Thread nD τ).loc main_v20) = W5 m c main_v20
        ∧ r.2.mem ((c.tc : Thread nD τ).loc main_arg0) = m ((c.tc : Thread nD τ).loc main_arg0))
      ∧ r.2.sem = fun _ => 0) :=
  (θ_run _ _ _).mono (fun _ h => ⟨fun c => ⟨h.1 c _ (mem_uc main_v19 (by decide)), h.1 c _ (mem_uc main_v20 (by decide)),
    (h.1 c _ (mem_uc main_arg0 (by decide))).trans (W5_arg0 m c)⟩, h.2⟩) (run_all m ρ)

end Cert.KernelIdeal.Hand
end
-- ==== Proof.Value.Nums.lean ====
/-
  Natural numbers among the extended reals: what the kernel counts with, and the step of its prefix sums. A prefix sum is made by doubling:
  after the steps `1, 2, …, d` an entry holds the sum of the last `2 d` entries up to it.
-/
module
public import Idealize.ShloMosaic.PureOps.Ideal
public import Idealize.ShloMosaic.Lib.IdealHost
public import Idealize.ShloMosaic.Lib.ValueIdx
public import Idealize.ShloMosaic.Lib.Pipeline.Value
@[expose] public section
noncomputable section
namespace Cert.Count
open Idealize.ShloMosaic Idealize.ShloMosaic.ValueIdx

/-- A natural number as a float's value. -/
def num (n : ℕ) : EReal := ((n : ℝ) : EReal)

theorem num_add (a b : ℕ) : num a + num b = num (a + b) := by
  unfold num; rw [← EReal.coe_add]; push_cast; rfl
theorem num_sub (a b : ℕ) (h : b ≤ a) : num a - num b = num (a - b) := by
  unfold num; rw [← EReal.coe_sub, Nat.cast_sub h]
theorem num_mul (a b : ℕ) : num a * num b = num (a * b) := by
  unfold num; rw [← EReal.coe_mul]; push_cast; rfl
theorem num_zero : num 0 = 0 := by unfold num; simp
theorem num_one : num 1 = 1 := by unfold num; simp

theorem sum_num {ι : Type} (S : Finset ι) (f : ι → ℕ) : ∑ i ∈ S, num (f i) = num (∑ i ∈ S, f i) := by
  classical
  induction S using Finset.induction_on with
  | empty => simp [num_zero]
  | insert a s h ih => rw [Finset.sum_insert h, Finset.sum_insert h, ih, num_add]

/-- The literal zero. -/
theorem zero_lit : Ideal.ofBits .f32 0x00000000#32 = num 0 := by rw [num_zero]; simp [Ideal.ofBits, Ideal.ieee]
/-- The literal one half. -/
theorem half_lit : Ideal.ofBits .f32 0x3F000000#32 = ((1 / 2 : ℝ) : EReal) := by
  simp [Ideal.ofBits, Ideal.ieee, -EReal.coe_mul]; norm_num

/-- A one-bit flag as a number. -/
theorem flag_num (b : BitVec 1) : ((((b.setWidth 32).toInt : ℤ) : ℝ) : EReal) = num b.toNat := by
  have : (b.setWidth 32).toInt = (b.toNat : ℤ) := by revert b; decide
  rw [this]; rfl
/-- The flag as the host converts it. -/
theorem uflag_num (b : BitVec 1) : (((b.toNat : ℕ) : ℝ) : EReal) = num b.toNat := rfl
/-- A word below 2³¹ as a number. -/
theorem word_num (n : ℕ) (h : n < 2147483648) : ((((BitVec.ofNat 32 n).toInt : ℤ) : ℝ) : EReal) = num n := by
  have : (BitVec.ofNat 32 n).toInt = (n : ℤ) := by
    rw [BitVec.toInt_eq_toNat_of_lt] <;> rw [BitVec.toNat_ofNat, Nat.mod_eq_of_lt (by omega)]
    omega
  rw [this]; rfl

/-- A count converted to a word. -/
theorem fptosi_num (n : ℕ) (h : n < 2147483648) : Ideal.fptosi 32 (num n) = BitVec.ofNat 32 n := by
  unfold num Ideal.fptosi
  rw [Ideal.toIntClamped_coe, if_pos (by positivity), Int.floor_natCast]
  have : max (-((2 ^ (32 - 1) : ℕ) : ℤ)) (min (((2 ^ (32 - 1) : ℕ) : ℤ) - 1) (n : ℤ)) = (n : ℤ) := by norm_num; omega
  rw [this, BitVec.ofInt_natCast]

/-- Strictly below a half more than an integer is at most the integer. -/
theorem num_lt_half (a b : ℕ) : (num a < num b + ((1 / 2 : ℝ) : EReal)) ↔ a ≤ b := by
  unfold num
  rw [← EReal.coe_add, EReal.coe_lt_coe_iff]
  constructor
  · intro h
    by_contra hc
    have : (b : ℝ) + 1 ≤ a := by exact_mod_cast (by omega : b + 1 ≤ a)
    linarith
  · intro h
    have : (a : ℝ) ≤ b := by exact_mod_cast h
    linarith

/-! ## Shifted copies -/

/-- Rows shifted right by `d`, zeros entering. -/
theorem shiftRow {R C d e : ℕ} (z : EReal) (v : (⟨2, ![R, C]⟩ : Shape).Idx → EReal) (hs : (⟨2, ![R, C]⟩ : Shape).Slices ![0, 0] ⟨2, ![R, e]⟩)
    (hc : Shape.Concatenates [⟨2, ![R, d]⟩, ⟨2, ![R, e]⟩] ⟨2, ![R, C]⟩ (1 : Fin 2)) (hde : d + e = C) (r : Fin R) (c : Fin C) :
    concatenate ⟨2, ![R, C]⟩ (1 : Fin 2) [⟨⟨2, ![R, d]⟩, fun _ => z⟩, ⟨⟨2, ![R, e]⟩, extractStridedSlice ⟨2, ![R, e]⟩ ![0, 0] v hs⟩] hc (ix2 r c)
      = if h : c.val < d then z else v (ix2 r ⟨c.val - d, by omega⟩) := by
  split
  next h =>
    exact concatenate_pair_apply_left (t := ⟨2, ![R, C]⟩) (s₁ := ⟨2, ![R, d]⟩) (s₂ := ⟨2, ![R, e]⟩) (1 : Fin 2) _ _ hc (ix2 r c) rfl (ix2 r ⟨c.val, h⟩)
      (fun b => by match b with | ⟨0, _⟩ => rfl | ⟨1, _⟩ => rfl)
  next h =>
    refine (concatenate_pair_apply_right (t := ⟨2, ![R, C]⟩) (s₁ := ⟨2, ![R, d]⟩) (s₂ := ⟨2, ![R, e]⟩) (1 : Fin 2) _ _ hc (ix2 r c) rfl rfl (ix2 r ⟨c.val - d, by omega⟩)
      (fun b hb => by match b, hb with | ⟨0, _⟩, _ => rfl | ⟨1, _⟩, hb => exact absurd rfl hb) (by show c.val - d + d = c.val; omega)).trans ?_
    exact extractStridedSlice_apply _ v hs _ _ (fun a => by
      match a with
      | ⟨0, _⟩ => exact (Nat.zero_add _).symm
      | ⟨1, _⟩ => exact (Nat.zero_add _).symm)

/-- Columns shifted down by `d`, zeros entering. -/
theorem shiftCol {R d e : ℕ} (z : EReal) (v : (⟨2, ![R, 1]⟩ : Shape).Idx → EReal) (hs : (⟨2, ![R, 1]⟩ : Shape).Slices ![0, 0] ⟨2, ![e, 1]⟩)
    (hc : Shape.Concatenates [⟨2, ![d, 1]⟩, ⟨2, ![e, 1]⟩] ⟨2, ![R, 1]⟩ (0 : Fin 2)) (hde : d + e = R) (r : Fin R) (c : Fin 1) :
    concatenate ⟨2, ![R, 1]⟩ (0 : Fin 2) [⟨⟨2, ![d, 1]⟩, fun _ => z⟩, ⟨⟨2, ![e, 1]⟩, extractStridedSlice ⟨2, ![e, 1]⟩ ![0, 0] v hs⟩] hc (ix2 r c)
      = if h : r.val < d then z else v (ix2 ⟨r.val - d, by omega⟩ c) := by
  split
  next h =>
    exact concatenate_pair_apply_left (t := ⟨2, ![R, 1]⟩) (s₁ := ⟨2, ![d, 1]⟩) (s₂ := ⟨2, ![e, 1]⟩) (0 : Fin 2) _ _ hc (ix2 r c) rfl (ix2 ⟨r.val, h⟩ c)
      (fun b => by match b with | ⟨0, _⟩ => rfl | ⟨1, _⟩ => rfl)
  next h =>
    refine (concatenate_pair_apply_right (t := ⟨2, ![R, 1]⟩) (s₁ := ⟨2, ![d, 1]⟩) (s₂ := ⟨2, ![e, 1]⟩) (0 : Fin 2) _ _ hc (ix2 r c) rfl rfl (ix2 ⟨r.val - d, by omega⟩ c)
      (fun b hb => by match b, hb with | ⟨0, _⟩, hb => exact absurd rfl hb | ⟨1, _⟩, _ => rfl) (by show r.val - d + d = r.val; omega)).trans ?_
    exact extractStridedSlice_apply _ v hs _ _ (fun a => by
      match a with
      | ⟨0, _⟩ => exact (Nat.zero_add _).symm
      | ⟨1, _⟩ => exact (Nat.zero_add _).symm)

/-! ## Prefix sums by doubling -/

/-- Each entry holds the sum of the last `d` entries up to it of the sequence whose sums are `S`. -/
def RowScan {R C : ℕ} (S : ℕ → ℕ → ℕ) (d : ℕ) (v : (⟨2, ![R, C]⟩ : Shape).Idx → EReal) : Prop :=
  ∀ (r : Fin R) (c : Fin C), v (ix2 r c) = num (S r.val (c.val + 1) - S r.val (c.val + 1 - d))

/-- The arithmetic of a step. -/
theorem scan_arith (T : ℕ → ℕ) (h0 : T 0 = 0) (hm : Monotone T) (d n : ℕ) :
    num (T (n + 1) - T (n + 1 - d)) + (if h : n < d then num 0 else num (T (n - d + 1) - T (n - d + 1 - d))) = num (T (n + 1) - T (n + 1 - (d + d))) := by
  split
  next h =>
    rw [num_add, show n + 1 - d = 0 by omega, show n + 1 - (d + d) = 0 by omega]
    rfl
  next h =>
    rw [num_add]
    have h1 : T (n + 1 - d) ≤ T (n + 1) := hm (by omega)
    have h2 : T (n - d + 1 - d) ≤ T (n + 1 - d) := hm (by omega)
    have e1 : n - d + 1 = n + 1 - d := by omega
    have e2 : n + 1 - (d + d) = n + 1 - d - d := by omega
    rw [e1] at h2 ⊢
    rw [e2]
    congr 1
    omega

/-- A row step doubles the reach. -/
theorem RowScan.step {R C d e : ℕ} {S : ℕ → ℕ → ℕ} {v : (⟨2, ![R, C]⟩ : Shape).Idx → EReal} (hv : RowScan S d v) (h0 : ∀ r, S r 0 = 0) (hm : ∀ r, Monotone (S r))
    (hs : (⟨2, ![R, C]⟩ : Shape).Slices ![0, 0] ⟨2, ![R, e]⟩)
    (hc : Shape.Concatenates [⟨2, ![R, d]⟩, ⟨2, ![R, e]⟩] ⟨2, ![R, C]⟩ (1 : Fin 2)) (hde : d + e = C) :
    RowScan S (d + d) (fun j => v j + concatenate ⟨2, ![R, C]⟩ (1 : Fin 2)
      [⟨⟨2, ![R, d]⟩, fun _ => Ideal.ofBits .f32 0x00000000#32⟩, ⟨⟨2, ![R, e]⟩, extractStridedSlice ⟨2, ![R, e]⟩ ![0, 0] v hs⟩] hc j) := by
  intro r c
  beta_reduce
  rw [shiftRow _ v hs hc hde r c, hv r c, zero_lit]
  refine Eq.trans ?_ (scan_arith (S r.val) (h0 _) (hm _) d c.val)
  congr 1
  split
  · rfl
  · exact hv r _

/-- The same down a column. -/
def ColScan {R : ℕ} (T : ℕ → ℕ) (d : ℕ) (v : (⟨2, ![R, 1]⟩ : Shape).Idx → EReal) : Prop :=
  ∀ (r : Fin R) (c : Fin 1), v (ix2 r c) = num (T (r.val + 1) - T (r.val + 1 - d))

theorem ColScan.step {R d e : ℕ} {T : ℕ → ℕ} {v : (⟨2, ![R, 1]⟩ : Shape).Idx → EReal} (hv : ColScan T d v) (h0 : T 0 = 0) (hm : Monotone T)
    (hs : (⟨2, ![R, 1]⟩ : Shape).Slices ![0, 0] ⟨2, ![e, 1]⟩)
    (hc : Shape.Concatenates [⟨2, ![d, 1]⟩, ⟨2, ![e, 1]⟩] ⟨2, ![R, 1]⟩ (0 : Fin 2)) (hde : d + e = R) :
    ColScan T (d + d) (fun j => v j + concatenate ⟨2, ![R, 1]⟩ (0 : Fin 2)
      [⟨⟨2, ![d, 1]⟩, fun _ => Ideal.ofBits .f32 0x00000000#32⟩, ⟨⟨2, ![e, 1]⟩, extractStridedSlice ⟨2, ![e, 1]⟩ ![0, 0] v hs⟩] hc j) := by
  intro r c
  beta_reduce
  rw [shiftCol _ v hs hc hde r c, hv r c, zero_lit]
  refine Eq.trans ?_ (scan_arith T h0 hm d r.val)
  congr 1
  split
  · rfl
  · exact hv _ c

end Cert.Count
end
-- ==== Proof.Value.Scan.lean ====
/-
  The block's scans. The flags of a block, its total of flags, and its running counts: along each row first, then the row totals down the
  column, as the kernel takes them.
-/
module
public import proofs.«01_k».proof.Proof.Value.Nums
public import proofs.«01_k».proof.Proof.KernelIdeal.MainBody
public import Idealize.ShloMosaic.PureOps.Ideal.Laws
@[expose] public section
noncomputable section
namespace Cert.Count
open Cert.KernelIdeal Cert.KernelIdeal.Gen
open Idealize.ShloMosaic Idealize.ShloMosaic.ValueIdx

/-- Whether a pixel is above one half. -/
def flag (x : EReal) : BitVec 1 := FloatOps.cmpf (F := Ideal) (φ := .f32) .ogt x (Ideal.ofBits .f32 0x3F000000#32)

theorem flag_le (x : EReal) : (flag x).toNat ≤ 1 := by have := (flag x).isLt; omega

/-- Row sums of a table of counts: the first `c` entries of row `r`. -/
def Sr (g : ℕ → ℕ → ℕ) (r c : ℕ) : ℕ := ∑ k ∈ Finset.range c, g r k
/-- The total of the rows before `r`. -/
def Tr (g : ℕ → ℕ → ℕ) (r : ℕ) : ℕ := ∑ k ∈ Finset.range r, Sr g k 384

theorem Sr_zero (g : ℕ → ℕ → ℕ) (r : ℕ) : Sr g r 0 = 0 := rfl
theorem Sr_succ (g : ℕ → ℕ → ℕ) (r c : ℕ) : Sr g r (c + 1) = Sr g r c + g r c := Finset.sum_range_succ _ _
theorem Tr_succ (g : ℕ → ℕ → ℕ) (r : ℕ) : Tr g (r + 1) = Tr g r + Sr g r 384 := Finset.sum_range_succ _ _
theorem Sr_mono (g : ℕ → ℕ → ℕ) (r : ℕ) : Monotone (Sr g r) := monotone_nat_of_le_succ fun c => by rw [Sr_succ]; omega
theorem Tr_mono (g : ℕ → ℕ → ℕ) : Monotone (Tr g) := monotone_nat_of_le_succ fun c => by rw [Tr_succ]; omega

theorem Sr_le (g : ℕ → ℕ → ℕ) (hg : ∀ r c, g r c ≤ 1) (r c : ℕ) : Sr g r c ≤ c :=
  (Finset.sum_le_card_nsmul _ _ 1 fun k _ => hg r k).trans (by simp)
theorem Tr_le (g : ℕ → ℕ → ℕ) (hg : ∀ r c, g r c ≤ 1) (r : ℕ) : Tr g r ≤ 384 * r :=
  (Finset.sum_le_card_nsmul _ _ 384 fun k _ => Sr_le g hg k 384).trans (by simp; omega)

/-- A row step, as the kernel writes it. -/
def stepR {R C : ℕ} (d e : ℕ) (hs : (⟨2, ![R, C]⟩ : Shape).Slices ![0, 0] ⟨2, ![R, e]⟩)
    (hc : Shape.Concatenates [⟨2, ![R, d]⟩, ⟨2, ![R, e]⟩] ⟨2, ![R, C]⟩ (1 : Fin 2)) (v : FVec Ideal ⟨2, ![R, C]⟩ .f32) : FVec Ideal ⟨2, ![R, C]⟩ .f32 :=
  addf v (concatenate ⟨2, ![R, C]⟩ (1 : Fin 2) [⟨⟨2, ![R, d]⟩, broadcast ⟨2, ![R, d]⟩ (Scalar.ofBits .f32 0x00000000#32)⟩,
    ⟨⟨2, ![R, e]⟩, extractStridedSlice ⟨2, ![R, e]⟩ ![0, 0] v hs⟩] hc)

/-- A column step likewise. -/
def stepC {R : ℕ} (d e : ℕ) (hs : (⟨2, ![R, 1]⟩ : Shape).Slices ![0, 0] ⟨2, ![e, 1]⟩)
    (hc : Shape.Concatenates [⟨2, ![d, 1]⟩, ⟨2, ![e, 1]⟩] ⟨2, ![R, 1]⟩ (0 : Fin 2)) (v : FVec Ideal ⟨2, ![R, 1]⟩ .f32) : FVec Ideal ⟨2, ![R, 1]⟩ .f32 :=
  addf v (concatenate ⟨2, ![R, 1]⟩ (0 : Fin 2) [⟨⟨2, ![d, 1]⟩, broadcast ⟨2, ![d, 1]⟩ (Scalar.ofBits .f32 0x00000000#32)⟩,
    ⟨⟨2, ![e, 1]⟩, extractStridedSlice ⟨2, ![e, 1]⟩ ![0, 0] v hs⟩] hc)

theorem stepR_scan {R C d e : ℕ} {S : ℕ → ℕ → ℕ} (h0 : ∀ r, S r 0 = 0) (hm : ∀ r, Monotone (S r)) (hs) (hc) (hde : d + e = C)
    (v : FVec Ideal ⟨2, ![R, C]⟩ .f32) (hv : RowScan S d v) : RowScan S (d + d) (stepR d e hs hc v) :=
  hv.step h0 hm hs hc hde

theorem stepC_scan {R d e : ℕ} {T : ℕ → ℕ} (h0 : T 0 = 0) (hm : Monotone T) (hs) (hc) (hde : d + e = R)
    (v : FVec Ideal ⟨2, ![R, 1]⟩ .f32) (hv : ColScan T d v) : ColScan T (d + d) (stepC d e hs hc v) :=
  hv.step h0 hm hs hc hde

theorem pay12_eq (v : FVec Ideal S32x384 .f32) : k1_pay12 v =
    stepR 256 128 slices_S32x384_o0_0_S32x128 concatenates_S32x256_S32x128_S32x384_d1
    (stepR 128 256 slices_S32x384_o0_0_S32x256 concatenates_S32x128_S32x256_S32x384_d1
    (stepR 64 320 slices_S32x384_o0_0_S32x320 concatenates_S32x64_S32x320_S32x384_d1
    (stepR 32 352 slices_S32x384_o0_0_S32x352 concatenates_S32x32_S32x352_S32x384_d1
    (stepR 16 368 slices_S32x384_o0_0_S32x368 concatenates_S32x16_S32x368_S32x384_d1
    (stepR 8 376 slices_S32x384_o0_0_S32x376 concatenates_S32x8_S32x376_S32x384_d1
    (stepR 4 380 slices_S32x384_o0_0_S32x380 concatenates_S32x4_S32x380_S32x384_d1
    (stepR 2 382 slices_S32x384_o0_0_S32x382 concatenates_S32x2_S32x382_S32x384_d1
    (stepR 1 383 slices_S32x384_o0_0_S32x383 concatenates_S32x1_S32x383_S32x384_d1 v)))))))) := rfl

variable (g : ℕ → ℕ → ℕ)

/-- The flags are the table `g`. -/
def Holds (v : FVec Ideal S32x384 .f32) : Prop := ∀ (r : Fin 32) (c : Fin 384), v (ix2 r c) = num (g r.val c.val)

/-- The running count along a row. -/
theorem pay12_apply (v : FVec Ideal S32x384 .f32) (hv : Holds g v) (r : Fin 32) (c : Fin 384) :
    k1_pay12 v (ix2 r c) = num (Sr g r.val (c.val + 1)) := by
  have h1 : RowScan (Sr g) 1 v := fun r c => (hv r c).trans (by
    rw [Nat.add_sub_cancel, Sr_succ, Nat.add_sub_cancel_left])
  have h0 := Sr_zero g
  have hm := Sr_mono g
  have h2 : RowScan (R := 32) (C := 384) (Sr g) 2 _ := stepR_scan (d := 1) (e := 383) h0 hm slices_S32x384_o0_0_S32x383 concatenates_S32x1_S32x383_S32x384_d1 rfl _ h1
  have h4 : RowScan (R := 32) (C := 384) (Sr g) 4 _ := stepR_scan (d := 2) (e := 382) h0 hm slices_S32x384_o0_0_S32x382 concatenates_S32x2_S32x382_S32x384_d1 rfl _ h2
  have h8 : RowScan (R := 32) (C := 384) (Sr g) 8 _ := stepR_scan (d := 4) (e := 380) h0 hm slices_S32x384_o0_0_S32x380 concatenates_S32x4_S32x380_S32x384_d1 rfl _ h4
  have h16 : RowScan (R := 32) (C := 384) (Sr g) 16 _ := stepR_scan (d := 8) (e := 376) h0 hm slices_S32x384_o0_0_S32x376 concatenates_S32x8_S32x376_S32x384_d1 rfl _ h8
  have h32 : RowScan (R := 32) (C := 384) (Sr g) 32 _ := stepR_scan (d := 16) (e := 368) h0 hm slices_S32x384_o0_0_S32x368 concatenates_S32x16_S32x368_S32x384_d1 rfl _ h16
  have h64 : RowScan (R := 32) (C := 384) (Sr g) 64 _ := stepR_scan (d := 32) (e := 352) h0 hm slices_S32x384_o0_0_S32x352 concatenates_S32x32_S32x352_S32x384_d1 rfl _ h32
  have h128 : RowScan (R := 32) (C := 384) (Sr g) 128 _ := stepR_scan (d := 64) (e := 320) h0 hm slices_S32x384_o0_0_S32x320 concatenates_S32x64_S32x320_S32x384_d1 rfl _ h64
  have h256 : RowScan (R := 32) (C := 384) (Sr g) 256 _ := stepR_scan (d := 128) (e := 256) h0 hm slices_S32x384_o0_0_S32x256 concatenates_S32x128_S32x256_S32x384_d1 rfl _ h128
  have h512 : RowScan (R := 32) (C := 384) (Sr g) 512 _ := stepR_scan (d := 256) (e := 128) h0 hm slices_S32x384_o0_0_S32x128 concatenates_S32x256_S32x128_S32x384_d1 rfl _ h256
  rw [pay12_eq]
  refine (h512 r c).trans ?_
  have hc := c.isLt
  rw [show c.val + 1 - 512 = 0 by omega, h0, Nat.sub_zero]

/-- The total of a row. -/
theorem pay13_apply (v : FVec Ideal S32x384 .f32) (hv : Holds g v) (r : Fin 32) (c : Fin 1) :
    k1_pay13 v (ix2 r c) = num (Sr g r.val 384) := by
  refine (extractStridedSlice_apply _ (k1_pay12 v) slices_S32x384_o0_383_S32x1 (ix2 r c) (ix2 r (⟨383, by omega⟩ : Fin 384)) (fun a => by
    match a with
    | ⟨0, _⟩ => exact (Nat.zero_add _).symm
    | ⟨1, _⟩ => show 383 = 383 + c.val; omega)).trans (pay12_apply g v hv r _)

/-- The row totals' scan, as the kernel writes it. -/
theorem pay7_col (v : FVec Ideal S32x384 .f32) :
    stepC 4 28 slices_S32x1_o0_0_S28x1 concatenates_S4x1_S28x1_S32x1_d0
      (stepC 2 30 slices_S32x1_o0_0_S30x1 concatenates_S2x1_S30x1_S32x1_d0
      (stepC 1 31 slices_S32x1_o0_0_S31x1 concatenates_S1x1_S31x1_S32x1_d0 (k1_pay13 v))) = addf (k1_pay14 v) (k1_pay15 v) := rfl

/-- The row totals up to and with a row. -/
def colScan (w : FVec Ideal S32x1 .f32) : FVec Ideal S32x1 .f32 :=
  stepC 16 16 slices_S32x1_o0_0_S16x1 concatenates_S16x1_S16x1_S32x1_d0 (stepC 8 24 slices_S32x1_o0_0_S24x1 concatenates_S8x1_S24x1_S32x1_d0 w)

theorem colScan_apply (v : FVec Ideal S32x384 .f32) (hv : Holds g v) (r : Fin 32) (c : Fin 1) :
    colScan (addf (k1_pay14 v) (k1_pay15 v)) (ix2 r c) = num (Tr g (r.val + 1)) := by
  have h1 : ColScan (Tr g) 1 (k1_pay13 v) := fun r c => (pay13_apply g v hv r c).trans (by
    rw [Nat.add_sub_cancel, Tr_succ, Nat.add_sub_cancel_left])
  have h0 : Tr g 0 = 0 := rfl
  have hm := Tr_mono g
  have h2 : ColScan (R := 32) (Tr g) 2 _ := stepC_scan (d := 1) (e := 31) h0 hm slices_S32x1_o0_0_S31x1 concatenates_S1x1_S31x1_S32x1_d0 rfl _ h1
  have h4 : ColScan (R := 32) (Tr g) 4 _ := stepC_scan (d := 2) (e := 30) h0 hm slices_S32x1_o0_0_S30x1 concatenates_S2x1_S30x1_S32x1_d0 rfl _ h2
  have h8 : ColScan (R := 32) (Tr g) 8 _ := stepC_scan (d := 4) (e := 28) h0 hm slices_S32x1_o0_0_S28x1 concatenates_S4x1_S28x1_S32x1_d0 rfl _ h4
  have h16 : ColScan (R := 32) (Tr g) 16 _ := stepC_scan (d := 8) (e := 24) h0 hm slices_S32x1_o0_0_S24x1 concatenates_S8x1_S24x1_S32x1_d0 rfl _ h8
  have h32 : ColScan (R := 32) (Tr g) 32 _ := stepC_scan (d := 16) (e := 16) h0 hm slices_S32x1_o0_0_S16x1 concatenates_S16x1_S16x1_S32x1_d0 rfl _ h16
  rw [← pay7_col, colScan]
  refine (h32 r c).trans ?_
  have hr := r.isLt
  rw [show r.val + 1 - 32 = 0 by omega, h0, Nat.sub_zero]

/-- The total of a block's flags, as both bodies take it. -/
def blockSum (v : FVec Ideal S32x384 .f32) : EReal :=
  extractAt ![0, 0, 0] (shapeCast S1x1x1 (multiReduction (F := Ideal) .add [1, 2] S1 (shapeCast S1x32x384 v shapeCasts_S32x384_S1x32x384)
    0x00000000#32 reduces_S1x32x384_S1 (.inl rfl) rfl) shapeCasts_S1_S1x1x1) inpos_S1x1x1_p0_0_0

theorem blockSum_eq (v : FVec Ideal S32x384 .f32) (hv : Holds g v) : blockSum v = num (Tr g 32) := by
  unfold blockSum extractAt
  rw [shapeCast]
  refine (Ideal.multiReduction_add_total (shapeCast S1x32x384 v shapeCasts_S32x384_S1x32x384) _ reduces_S1x32x384_S1 (by decide) (.inl rfl) rfl _).trans ?_
  unfold shapeCast
  rw [Equiv.sum_comp (Shape.reshapeEquiv shapeCasts_S32x384_S1x32x384) v, sum_idx2]
  have : ∀ a : Fin 32, ∑ b : Fin 384, v (ix2 a b) = num (Sr g a.val 384) := fun a => by
    rw [Finset.sum_congr rfl fun b _ => hv a b, sum_num, Fin.sum_univ_eq_sum_range (fun k => g a.val k) 384, Sr]
  rw [Finset.sum_congr rfl fun a _ => this a, sum_num, Fin.sum_univ_eq_sum_range (fun k => Sr g k 384) 32, Tr]

theorem pay3_eq (X : Vec Ideal S1x32x192x384 .f32) : k1_pay3 X = blockSum (k1_pay2 X) := rfl

end Cert.Count
end
-- ==== Proof.Value.Prefix.lean ====
/-
  The counts along an image. Pixels are numbered row by row; `Pf A b k` is how many of the first `k` of batch `b` have their flag set. A block
  of thirty-two rows is 12288 consecutive pixels, so its own scan continues the count before it.
-/
module
public import proofs.«01_k».proof.Proof.Value.Scan
@[expose] public section
noncomputable section
namespace Cert.Count
open Cert.KernelIdeal
open Idealize.ShloMosaic Idealize.ShloMosaic.ValueIdx

/-- The flag of a pixel of the image, zero outside. -/
def gI (A : S4x384x384x192.Idx → EReal) (b r c : ℕ) : ℕ :=
  if h : b < 4 ∧ r < 384 ∧ c < 384 then (flag (A (ix4 (⟨b, h.1⟩ : Fin 4) (⟨r, h.2.1⟩ : Fin 384) (⟨c, h.2.2⟩ : Fin 384) (0 : Fin 192)))).toNat else 0

theorem gI_le (A : S4x384x384x192.Idx → EReal) (b r c : ℕ) : gI A b r c ≤ 1 := by
  unfold gI; split
  · exact flag_le _
  · omega

theorem gI_eq (A : S4x384x384x192.Idx → EReal) (b : Fin 4) (r c : Fin 384) : gI A b.val r.val c.val = (flag (A (ix4 b r c (0 : Fin 192)))).toNat := by
  rw [gI, dif_pos ⟨b.isLt, r.isLt, c.isLt⟩]

/-- How many of the first `k` pixels of a batch are flagged. -/
def Pf (A : S4x384x384x192.Idx → EReal) (b k : ℕ) : ℕ := ∑ n ∈ Finset.range k, gI A b (n / 384) (n % 384)

variable (A : S4x384x384x192.Idx → EReal)

theorem Pf_succ (b k : ℕ) : Pf A b (k + 1) = Pf A b k + gI A b (k / 384) (k % 384) := Finset.sum_range_succ _ _
theorem Pf_mono (b : ℕ) : Monotone (Pf A b) := monotone_nat_of_le_succ fun k => by rw [Pf_succ]; omega
theorem Pf_le (b k : ℕ) : Pf A b k ≤ k :=
  (Finset.sum_le_card_nsmul _ _ 1 fun n _ => gI_le A b _ _).trans (by simp)

/-- Along a row. -/
theorem Pf_row (b R : ℕ) : ∀ c ≤ 384, Pf A b (R * 384 + c) = Pf A b (R * 384) + Sr (gI A b) R c
  | 0, _ => rfl
  | c + 1, h => by
    rw [← Nat.add_assoc, Pf_succ, Pf_row b R c (by omega), Sr_succ, show (R * 384 + c) / 384 = R by omega, show (R * 384 + c) % 384 = c by omega, Nat.add_assoc]

variable (g : ℕ → ℕ → ℕ)

/-- A block's own sums are the image's. -/
theorem Sr_block (b i : ℕ) (hg : ∀ r < 32, ∀ c < 384, g r c = gI A b (32 * i + r) c) (r : ℕ) (hr : r < 32) (c : ℕ) (hc : c ≤ 384) :
    Sr g r c = Sr (gI A b) (32 * i + r) c :=
  Finset.sum_congr rfl fun k hk => hg r hr k (by have := Finset.mem_range.mp hk; omega)

/-- Down a block's rows. -/
theorem Pf_rows (b i : ℕ) (hg : ∀ r < 32, ∀ c < 384, g r c = gI A b (32 * i + r) c) :
    ∀ r ≤ 32, Pf A b ((32 * i + r) * 384) = Pf A b (12288 * i) + Tr g r
  | 0, _ => by rw [show (32 * i + 0) * 384 = 12288 * i by omega]; rfl
  | r + 1, h => by
    rw [show (32 * i + (r + 1)) * 384 = (32 * i + r) * 384 + 384 by omega, Pf_row A b _ 384 le_rfl, Pf_rows b i hg r (by omega), Tr_succ,
      Sr_block A g b i hg r (by omega) 384 le_rfl, Nat.add_assoc]

/-- Anywhere in a block. -/
theorem Pf_block (b i : ℕ) (hg : ∀ r < 32, ∀ c < 384, g r c = gI A b (32 * i + r) c) (r : ℕ) (hr : r < 32) (c : ℕ) (hc : c ≤ 384) :
    Pf A b ((32 * i + r) * 384 + c) = Pf A b (12288 * i) + (Tr g r + Sr g r c) := by
  rw [Pf_row A b _ c hc, Pf_rows A g b i hg r (by omega), Sr_block A g b i hg r hr c hc, Nat.add_assoc]

/-- After a block. -/
theorem Pf_next (b i : ℕ) (hg : ∀ r < 32, ∀ c < 384, g r c = gI A b (32 * i + r) c) :
    Pf A b (12288 * (i + 1)) = Pf A b (12288 * i) + Tr g 32 := by
  rw [← Pf_rows A g b i hg 32 le_rfl]; congr 1; omega

/-- A pixel's mask: its flag if the count up to and with it is at most the limit. -/
def maskN (b r c : ℕ) : ℕ := gI A b r c * (if Pf A b (r * 384 + c + 1) ≤ 20000 then 1 else 0)

end Cert.Count
end
-- ==== Proof.Value.Block.lean ====
/-
  What the two bodies make of a block: the number of its flags, and its mask and masked pixels. A pixel is kept when its flag is set and the
  count up to and with it, the earlier blocks' included, is at most the limit; the three cases of the masking body agree on that.
-/
module
public import proofs.«01_k».proof.Proof.Value.Scan
@[expose] public section
noncomputable section
namespace Cert.Count
open Cert.KernelIdeal Cert.KernelIdeal.Gen Cert.KernelIdeal.Hand
open Idealize.ShloMosaic Idealize.ShloMosaic.ValueIdx

/-- The flags of a block's rows: of the first of its columns. -/
def gBlk {n : ℕ} (hn : 0 < n) (X : (⟨4, ![1, 32, n, 384]⟩ : Shape).Idx → EReal) (r c : ℕ) : ℕ :=
  if h : r < 32 ∧ c < 384 then (flag (X (ix4 (0 : Fin 1) (⟨r, h.1⟩ : Fin 32) (⟨0, hn⟩ : Fin n) (⟨c, h.2⟩ : Fin 384)))).toNat else 0

theorem gBlk_le {n : ℕ} (hn : 0 < n) (X : (⟨4, ![1, 32, n, 384]⟩ : Shape).Idx → EReal) (r c : ℕ) : gBlk hn X r c ≤ 1 := by
  unfold gBlk; split
  · exact flag_le _
  · omega

/-- A value compared with the half, as a number. -/
theorem flag_apply (x : EReal) : FloatOps.sitofp (F := Ideal) .f32 ((flag x).setWidth 32) = num (flag x).toNat := flag_num _

/-! ## Reading the reshapes -/

theorem cast3to2 {n : ℕ} (v : (⟨3, ![32, 1, 384]⟩ : Shape).Idx → EReal) (h) (r : Fin 32) (c : Fin 384) :
    shapeCast ⟨2, ![32, 384]⟩ v h (ix2 r c) = v (ix3 r (0 : Fin 1) c) :=
  shapeCast_apply v h _ _ (by rw [Shape.rowMajor_val_three, Shape.rowMajor_val_two]; simp)

theorem cast2to3 (v : (⟨2, ![32, 384]⟩ : Shape).Idx → EReal) (h) (r : Fin 32) (z : Fin 1) (c : Fin 384) :
    shapeCast ⟨3, ![32, 1, 384]⟩ v h (ix3 r z c) = v (ix2 r c) :=
  shapeCast_apply v h _ _ (by rw [Shape.rowMajor_val_three, Shape.rowMajor_val_two]; simp)

theorem cast2to3' (v : (⟨2, ![32, 384]⟩ : Shape).Idx → EReal) (h) (z : Fin 1) (r : Fin 32) (c : Fin 384) :
    shapeCast ⟨3, ![1, 32, 384]⟩ v h (ix3 z r c) = v (ix2 r c) :=
  shapeCast_apply v h _ _ (by rw [Shape.rowMajor_val_three, Shape.rowMajor_val_two]; simp)

theorem cast4to3 {n : ℕ} (v : (⟨4, ![1, 32, n, 384]⟩ : Shape).Idx → EReal) (h) (r : Fin 32) (k : Fin n) (c : Fin 384) :
    shapeCast ⟨3, ![32, n, 384]⟩ v h (ix3 r k c) = v (ix4 (0 : Fin 1) r k c) :=
  shapeCast_apply v h _ _ (by
    rw [Shape.rowMajor_val_three, Shape.rowMajor_val_four]
    show ((0 * 32 + r.val) * n + k.val) * 384 + c.val = (r.val * n + k.val) * 384 + c.val
    rw [Nat.zero_mul, Nat.zero_add])

theorem cast3to4 {n : ℕ} (v : (⟨3, ![32, n, 384]⟩ : Shape).Idx → EReal) (h) (z : Fin 1) (r : Fin 32) (k : Fin n) (c : Fin 384) :
    shapeCast ⟨4, ![1, 32, n, 384]⟩ v h (ix4 z r k c) = v (ix3 r k c) :=
  shapeCast_apply v h _ _ (by
    rw [Shape.rowMajor_val_three, Shape.rowMajor_val_four]
    show (r.val * n + k.val) * 384 + c.val = ((z.val * 32 + r.val) * n + k.val) * 384 + c.val
    rw [show z.val = 0 by omega, Nat.zero_mul, Nat.zero_add])

theorem slice3 {n : ℕ} (hn : 0 < n) (v : (⟨3, ![32, n, 384]⟩ : Shape).Idx → EReal) (h) (r : Fin 32) (z : Fin 1) (c : Fin 384) :
    extractStridedSlice ⟨3, ![32, 1, 384]⟩ ![0, 0, 0] v h (ix3 r z c) = v (ix3 r (⟨0, hn⟩ : Fin n) c) :=
  extractStridedSlice_apply _ v h _ _ (fun a => by
    match a with
    | ⟨0, _⟩ => exact (Nat.zero_add _).symm
    | ⟨1, _⟩ => show 0 = 0 + z.val; omega
    | ⟨2, _⟩ => exact (Nat.zero_add _).symm)

/-- The flags the masking body reads. -/
theorem pay2_holds (X : Vec Ideal S1x32x192x384 .f32) : Holds (gBlk (by decide) X) (k1_pay2 X) := fun r c => by
  have e : (gBlk (n := 192) (by decide) X r.val c.val) = (flag (X (ix4 (0 : Fin 1) r (0 : Fin 192) c))).toNat := by
    rw [gBlk, dif_pos ⟨r.isLt, c.isLt⟩]; rfl
  rw [e, ← flag_apply]
  refine congrArg (fun x => FloatOps.sitofp (F := Ideal) .f32 ((flag x).setWidth 32)) ?_
  refine (cast3to2 (n := 0) _ _ r c).trans ((slice3 (n := 192) (by decide) _ _ r 0 c).trans ?_)
  exact cast4to3 _ _ r _ c

/-- The flags the counting body reads, as it takes them. -/
def flags0 (X : FVec Ideal S1x32x8x384 .f32) : FVec Ideal S32x384 .f32 :=
  sitofp .f32 (extui 32 (cmpf .ogt
    (shapeCast S32x384 (extractStridedSlice S32x1x384 ![0, 0, 0] (shapeCast S32x8x384 X shapeCasts_S1x32x8x384_S32x8x384) slices_S32x8x384_o0_0_0_S32x1x384) shapeCasts_S32x1x384_S32x384)
    (broadcast S32x384 (Scalar.ofBits .f32 0x3F000000#32))) natLt_1_32)

theorem flags0_holds (X : Vec Ideal S1x32x8x384 .f32) : Holds (gBlk (by decide) X) (flags0 X) := fun r c => by
  have e : (gBlk (n := 8) (by decide) X r.val c.val) = (flag (X (ix4 (0 : Fin 1) r (0 : Fin 8) c))).toNat := by
    rw [gBlk, dif_pos ⟨r.isLt, c.isLt⟩]; rfl
  rw [e, ← flag_apply]
  refine congrArg (fun x => FloatOps.sitofp (F := Ideal) .f32 ((flag x).setWidth 32)) ?_
  refine (cast3to2 (n := 0) _ _ r c).trans ((slice3 (n := 8) (by decide) _ _ r 0 c).trans ?_)
  exact cast4to3 _ _ r _ c

theorem pay1_sum (X : Vec Ideal S1x32x8x384 .f32) : k0_pay1 X = blockSum (flags0 X) := rfl

/-- The number the counting body counts. -/
theorem pay1_eq (X : Vec Ideal S1x32x8x384 .f32) : k0_pay1 X = num (Tr (gBlk (by decide) X) 32) :=
  (pay1_sum X).trans (blockSum_eq _ _ (flags0_holds X))

/-- The word a block's count becomes. -/
theorem count_word (g : ℕ → ℕ → ℕ) (hg : ∀ r c, g r c ≤ 1) (x : EReal) (hx : x = num (Tr g 32)) :
    Scalar.fptosi (F := Ideal) (φ := .f32) 32 x = BitVec.ofNat 32 (Tr g 32) := by
  have := Tr_le g hg 32
  rw [hx]; exact fptosi_num _ (by omega)

/-! ## Comparisons of words -/

theorem toInt_small (n : ℕ) (h : n < 2147483648) : (BitVec.ofNat 32 n).toInt = (n : ℤ) := by
  rw [BitVec.toInt_eq_toNat_of_lt] <;> rw [BitVec.toNat_ofNat, Nat.mod_eq_of_lt (by omega)]
  omega

theorem sge_lim (n : ℕ) (h : n < 2147483648) : Scalar.cmpi .sge (BitVec.ofNat 32 n) 20000#32 = BitVec.ofBool (decide (20000 ≤ n)) := by
  have e : (20000#32).toInt = 20000 := by decide
  simp only [Scalar.cmpi, IntOp.cmpi, BitVec.sle, toInt_small n h, e]
  exact congrArg BitVec.ofBool (decide_eq_decide.mpr (by omega))
theorem slt_lim (n : ℕ) (h : n < 2147483648) : Scalar.cmpi .slt (BitVec.ofNat 32 n) 20000#32 = BitVec.ofBool (decide (n < 20000)) := by
  have e : (20000#32).toInt = 20000 := by decide
  simp only [Scalar.cmpi, IntOp.cmpi, BitVec.slt, toInt_small n h, e]
  exact congrArg BitVec.ofBool (decide_eq_decide.mpr (by omega))
theorem sgt_lim (n : ℕ) (h : n < 2147483648) : Scalar.cmpi .sgt (BitVec.ofNat 32 n) 20000#32 = BitVec.ofBool (decide (20000 < n)) := by
  have e : (20000#32).toInt = 20000 := by decide
  simp only [Scalar.cmpi, IntOp.cmpi, BitVec.slt, toInt_small n h, e]
  exact congrArg BitVec.ofBool (decide_eq_decide.mpr (by omega))
theorem sle_lim (n : ℕ) (h : n < 2147483648) : Scalar.cmpi .sle (BitVec.ofNat 32 n) 20000#32 = BitVec.ofBool (decide (n ≤ 20000)) := by
  have e : (20000#32).toInt = 20000 := by decide
  simp only [Scalar.cmpi, IntOp.cmpi, BitVec.sle, toInt_small n h, e]
  exact congrArg BitVec.ofBool (decide_eq_decide.mpr (by omega))

theorem cond1_iff (n : ℕ) (h : n < 2147483648) : k1_cond1 (BitVec.ofNat 32 n) = 1#1 ↔ n < 20000 := by
  unfold k1_cond1
  dsimp only
  rw [sge_lim n h]
  by_cases hn : 20000 ≤ n
  · simp only [decide_eq_true hn]
    exact ⟨fun h => absurd h (by decide), fun h => by omega⟩
  · simp only [decide_eq_false hn]
    exact ⟨fun _ => by omega, fun _ => by decide⟩

end Cert.Count
end
-- ==== Proof.Value.Mask.lean ====
/-
  The mask of a block. Below the limit, a pixel's mask is its flag when the count up to and with it is at most the limit, and zero otherwise,
  whether the block crosses the limit or not; from the limit on it is zero. The masked pixels are the pixels times the mask.
-/
module
public import proofs.«01_k».proof.Proof.Value.Block
@[expose] public section
noncomputable section
namespace Cert.Count
open Cert.KernelIdeal Cert.KernelIdeal.Gen Cert.KernelIdeal.Hand
open Idealize.ShloMosaic Idealize.ShloMosaic.ValueIdx

/-- Whether a pixel is within the limit: the count up to and with it, starting from `n` before the block. -/
def keep (n : ℕ) (g : ℕ → ℕ → ℕ) (r c : ℕ) : ℕ := if n + (Tr g r + Sr g r (c + 1)) ≤ 20000 then 1 else 0

/-- The block's flags. -/
abbrev gX (X : Vec Ideal S1x32x192x384 .f32) : ℕ → ℕ → ℕ := gBlk (n := 192) (by decide) X

theorem bool_num (p : Prop) [Decidable p] : FloatOps.sitofp (F := Ideal) .f32 ((BitVec.ofBool (decide p)).setWidth 32) = num (if p then 1 else 0) := by
  refine (flag_num _).trans ?_
  by_cases h : p
  · simp [h]
  · simp [h]

/-- A column broadcast along the rows. -/
theorem bcast_col (v : (⟨2, ![32, 1]⟩ : Shape).Idx → EReal) (h) (r : Fin 32) (c : Fin 384) :
    broadcastTo ⟨2, ![32, 384]⟩ v h (ix2 r c) = v (ix2 r (0 : Fin 1)) :=
  broadcastTo_apply v h _ _ (fun a => by
    match a with
    | ⟨0, _⟩ => rfl
    | ⟨1, _⟩ => rfl)

/-- A table broadcast along the block's columns. -/
theorem bcast_mid (v : (⟨3, ![32, 1, 384]⟩ : Shape).Idx → EReal) (h) (r : Fin 32) (k : Fin 192) (c : Fin 384) :
    broadcastTo ⟨3, ![32, 192, 384]⟩ v h (ix3 r k c) = v (ix3 r (0 : Fin 1) c) :=
  broadcastTo_apply v h _ _ (fun a => by
    match a with
    | ⟨0, _⟩ => rfl
    | ⟨1, _⟩ => rfl
    | ⟨2, _⟩ => rfl)

/-- The mask where the block does not cross. -/
theorem pay4_apply (n : ℕ) (hn : n < 20000) (X : Vec Ideal S1x32x192x384 .f32) (r : Fin 32) (c : Fin 384) :
    k1_pay4 (BitVec.ofNat 32 n) X (ix2 r c) = num (gX X r.val c.val * (if n + Tr (gX X) 32 ≤ 20000 then 1 else 0)) := by
  have hT := Tr_le (gX X) (gBlk_le _ X) 32
  have hs : k1_pay3 X = num (Tr (gX X) 32) := (pay3_eq X).trans (blockSum_eq _ _ (pay2_holds X))
  have hw : Scalar.fptosi (F := Ideal) (φ := .f32) 32 (k1_pay3 X) = BitVec.ofNat 32 (Tr (gX X) 32) := count_word _ (gBlk_le _ X) _ hs
  have hv : Scalar.cmpi .sle (Scalar.addi (BitVec.ofNat 32 n) (Scalar.fptosi (F := Ideal) (φ := .f32) 32 (k1_pay3 X))) 20000#32
      = BitVec.ofBool (decide (n + Tr (gX X) 32 ≤ 20000)) := by
    rw [hw, show Scalar.addi (BitVec.ofNat 32 n) (BitVec.ofNat 32 (Tr (gX X) 32)) = BitVec.ofNat 32 (n + Tr (gX X) 32) from (BitVec.ofNat_add _ _).symm,
      sle_lim _ (by omega)]
  refine Eq.trans (b := k1_pay2 X (ix2 r c) * FloatOps.sitofp (F := Ideal) .f32 ((Scalar.cmpi .sle (Scalar.addi (BitVec.ofNat 32 n) (Scalar.fptosi (F := Ideal) (φ := .f32) 32 (k1_pay3 X))) 20000#32).setWidth 32)) rfl ?_
  rw [hv, bool_num, pay2_holds X r c, num_mul]

/-- The crossing block's mask, read off its formula. -/
theorem pay7_at (v : BitVec 32) (X : FVec Ideal S1x32x192x384 .f32) (a : FVec Ideal S32x384 .f32) (b p q : FVec Ideal S32x1 .f32) (j : S32x384.Idx) :
    k1_pay7 v X a b p q j = k1_pay2 X j * FloatOps.sitofp (F := Ideal) .f32 ((BitVec.ofBool (decide
      (a j + broadcastTo S32x384 (subf (colScan (addf p q)) b) broadcasts_S32x1_S32x384 j
        < FloatOps.sitofp (F := Ideal) .f32 (Scalar.subi 20000#32 v) + Ideal.ofBits .f32 0x3F000000#32))).setWidth 32) := rfl

/-- The masked block, read off its formula. -/
theorem out_at (X : FVec Ideal S1x32x192x384 .f32) (m : FVec Ideal S32x384 .f32) (z : Fin 1) (r : Fin 32) (k : Fin 192) (c : Fin 384) :
    shapeCast S1x32x192x384 (mulf (k1_pay1 X) (broadcastTo S32x192x384 (shapeCast S32x1x384 m shapeCasts_S32x384_S32x1x384) broadcasts_S32x1x384_S32x192x384))
      shapeCasts_S32x192x384_S1x32x192x384 (ix4 z r k c) = X (ix4 (0 : Fin 1) r k c) * m (ix2 r c) := by
  refine (cast3to4 (n := 192) _ _ z r k c).trans ?_
  exact congrArg₂ (· * ·) (cast4to3 (n := 192) X _ r k c) ((bcast_mid _ _ r k c).trans (cast2to3 _ _ r 0 c))

/-- The mask where it does. -/
theorem pay7_apply (n : ℕ) (hn : n < 20000) (X : Vec Ideal S1x32x192x384 .f32) (r : Fin 32) (c : Fin 384) :
    k1_pay7 (BitVec.ofNat 32 n) X (k1_pay12 (k1_pay2 X)) (k1_pay13 (k1_pay2 X)) (k1_pay14 (k1_pay2 X)) (k1_pay15 (k1_pay2 X)) (ix2 r c)
      = num (gX X r.val c.val * keep n (gX X) r.val c.val) := by
  have hX : Holds (gX X) (k1_pay2 X) := pay2_holds X
  rw [pay7_at]
  have h1 : broadcastTo S32x384 (subf (colScan (addf (k1_pay14 (k1_pay2 X)) (k1_pay15 (k1_pay2 X)))) (k1_pay13 (k1_pay2 X))) broadcasts_S32x1_S32x384 (ix2 r c)
      = num (Tr (gX X) r.val) := by
    refine (bcast_col _ _ r c).trans ?_
    refine Eq.trans (b := colScan (addf (k1_pay14 (k1_pay2 X)) (k1_pay15 (k1_pay2 X))) (ix2 r 0) - k1_pay13 (k1_pay2 X) (ix2 r 0)) rfl ?_
    rw [colScan_apply _ _ hX, pay13_apply _ _ hX, num_sub _ _ (by rw [Tr_succ]; omega), Tr_succ, Nat.add_sub_cancel]
  have h2 : FloatOps.sitofp (F := Ideal) .f32 (Scalar.subi 20000#32 (BitVec.ofNat 32 n)) = num (20000 - n) := by
    have : Scalar.subi 20000#32 (BitVec.ofNat 32 n) = BitVec.ofNat 32 (20000 - n) := by
      apply BitVec.eq_of_toNat_eq
      show ((20000#32) - BitVec.ofNat 32 n).toNat = _
      rw [BitVec.toNat_sub, BitVec.toNat_ofNat, BitVec.toNat_ofNat, BitVec.toNat_ofNat]
      omega
    rw [this]; exact word_num _ (by omega)
  rw [h1, h2, half_lit, pay12_apply (gX X) _ hX, num_add, bool_num, hX r c, num_mul]
  refine congrArg (fun k : ℕ => num (gX X r.val c.val * k)) ?_
  unfold keep
  refine if_congr ?_ rfl rfl
  rw [num_lt_half]
  omega

/-- Below the limit a whole uncrossed block is within it. -/
theorem keep_whole (n : ℕ) (g : ℕ → ℕ → ℕ) (h : n + Tr g 32 ≤ 20000) (r : Fin 32) (c : Fin 384) : keep n g r.val c.val = 1 := by
  have h1 : Sr g r.val (c.val + 1) ≤ Sr g r.val 384 := Sr_mono g _ (by omega)
  have h2 : Tr g (r.val + 1) ≤ Tr g 32 := Tr_mono g (by omega)
  rw [Tr_succ] at h2
  exact if_pos (by omega)

theorem crosses_iff (n : ℕ) (hn : n < 20000) (X : Vec Ideal S1x32x192x384 .f32) :
    crosses (BitVec.ofNat 32 n) X = 1#1 ↔ ¬ n + Tr (gX X) 32 ≤ 20000 := by
  have hT := Tr_le (gX X) (gBlk_le _ X) 32
  have hs : k1_pay3 X = num (Tr (gX X) 32) := (pay3_eq X).trans (blockSum_eq _ _ (pay2_holds X))
  unfold crosses
  rw [count_word _ (gBlk_le _ X) _ hs,
    show Scalar.addi (BitVec.ofNat 32 n) (BitVec.ofNat 32 (Tr (gX X) 32)) = BitVec.ofNat 32 (n + Tr (gX X) 32) from (BitVec.ofNat_add _ _).symm,
    sgt_lim _ (by omega), slt_lim _ (by omega), decide_eq_true hn]
  by_cases h : n + Tr (gX X) 32 ≤ 20000
  · rw [decide_eq_false (by omega)]
    exact ⟨fun h' => absurd h' (by decide), fun h' => absurd h h'⟩
  · rw [decide_eq_true (by omega)]
    exact ⟨fun _ => h, fun _ => by decide⟩

/-- The mask of a block below the limit. -/
theorem mask_lt (n : ℕ) (hn : n < 20000) (X : Vec Ideal S1x32x192x384 .f32) (z : Fin 1) (r : Fin 32) (c : Fin 384) :
    mainMask (BitVec.ofNat 32 n) X (ix3 z r c) = num (gX X r.val c.val * keep n (gX X) r.val c.val) := by
  rw [mainMask, if_pos ((cond1_iff n (by omega)).mpr hn)]
  by_cases h : n + Tr (gX X) 32 ≤ 20000
  · rw [if_neg (fun h' => (crosses_iff n hn X).mp h' h)]
    refine (cast2to3' _ _ z r c).trans ((pay4_apply n hn X r c).trans ?_)
    rw [if_pos h, keep_whole n _ h]
  · rw [if_pos ((crosses_iff n hn X).mpr h)]
    exact (cast2to3' _ _ z r c).trans (pay7_apply n hn X r c)

/-- The masked pixels of a block below the limit. -/
theorem out_lt (n : ℕ) (hn : n < 20000) (X : Vec Ideal S1x32x192x384 .f32) (z : Fin 1) (r : Fin 32) (k : Fin 192) (c : Fin 384) :
    mainOut (BitVec.ofNat 32 n) X (ix4 z r k c) = X (ix4 (0 : Fin 1) r k c) * num (gX X r.val c.val * keep n (gX X) r.val c.val) := by
  rw [mainOut, if_pos ((cond1_iff n (by omega)).mpr hn)]
  by_cases h : n + Tr (gX X) 32 ≤ 20000
  · rw [if_neg (fun h' => (crosses_iff n hn X).mp h' h)]
    refine (out_at X (k1_pay4 (BitVec.ofNat 32 n) X) z r k c).trans ?_
    rw [pay4_apply n hn X r c]
    rw [if_pos h, keep_whole n _ h]
  · rw [if_pos ((crosses_iff n hn X).mpr h)]
    refine (out_at X (k1_pay7 (BitVec.ofNat 32 n) X (k1_pay12 (k1_pay2 X)) (k1_pay13 (k1_pay2 X)) (k1_pay14 (k1_pay2 X)) (k1_pay15 (k1_pay2 X))) z r k c).trans ?_
    rw [pay7_apply n hn X r c]

/-- From the limit on the mask is zero, and so are the masked pixels. -/
theorem mask_ge (n : ℕ) (hn : 20000 ≤ n) (hb : n < 2147483648) (X : Vec Ideal S1x32x192x384 .f32) (j : S1x32x384.Idx) :
    mainMask (BitVec.ofNat 32 n) X j = num 0 := by
  rw [mainMask, if_neg (fun h => by have := (cond1_iff n hb).mp h; omega)]
  exact zero_lit
theorem out_ge (n : ℕ) (hn : 20000 ≤ n) (hb : n < 2147483648) (X : Vec Ideal S1x32x192x384 .f32) (j : S1x32x192x384.Idx) :
    mainOut (BitVec.ofNat 32 n) X j = num 0 := by
  rw [mainOut, if_neg (fun h => by have := (cond1_iff n hb).mp h; omega)]
  exact zero_lit

end Cert.Count
end
-- ==== Proof.Value.Reads.lean ====
/-
  Where the regions' blocks lie. A block that a point fetches is rows of the transposed image; the blocks that the masking region writes
  back cover its two results.
-/
module
public import proofs.«01_k».proof.Proof.Value.Mask
public import proofs.«01_k».proof.Proof.KernelIdeal.Run
@[expose] public section
noncomputable section
namespace Cert.Count
open Cert.KernelIdeal Cert.KernelIdeal.Gen Cert.KernelIdeal.Hand
open Idealize.ShloMosaic Idealize.ShloMosaic.ValueIdx Idealize.ShloMosaic.TcCoe
open Idealize.SL Idealize.SL.Sem

variable (W : Dev nD → Valuation τ sig (Elt Ideal))

theorem lt48 (t : Fin cfg0.N) : t.val < 48 := by have := t.isLt; have e : cfg0.N = 48 := N_0; omega

/-- The transposed image that a valuation holds. -/
abbrev imgT (c : Dev nD) : S4x384x192x384.Idx → EReal := W c (main_v0 : Ref sig .tc)

theorem blk0_apply (c : Dev nD) (t : Fin cfg0.N) (r : Fin 32) (k : Fin 8) (l : Fin 384) :
    blk0 W c t (ix4 (0 : Fin 1) r k l)
      = imgT W c (ix4 (⟨t.val / 12, by have := lt48 t; omega⟩ : Fin 4) (⟨32 * (t.val % 12) + r.val, by omega⟩ : Fin 384) (⟨k.val, by omega⟩ : Fin 192) l) := by
  have hc := coords0 t
  have ht := lt48 t
  refine congrArg (imgT W c) (funext fun a => Fin.ext ?_)
  refine (Pipeline.Window.rect_emb_val (win0_0) t _ a).trans ?_
  match a with
  | ⟨0, _⟩ =>
    show (BitVec.ofNat 32 ((grid0.coords t) 0).val).toNat * 1 + 0 = t.val / 12
    rw [hc.1, BitVec.toNat_ofNat]; omega
  | ⟨1, _⟩ =>
    show (BitVec.ofNat 32 ((grid0.coords t) 1).val).toNat * 32 + r.val = 32 * (t.val % 12) + r.val
    rw [hc.2, BitVec.toNat_ofNat]; omega
  | ⟨2, _⟩ => exact (Nat.zero_add _)
  | ⟨3, _⟩ => exact (Nat.zero_add _)

variable (a : (pcfg1 (F := Ideal)).Adm)

theorem lt48' (t : Fin (cfg1 a).N) : t.val < 48 := by have := t.isLt; have e : (cfg1 a).N = 48 := N_1; omega

/-- The block of the image that a point of the masking region fetches, by the table. -/
def fetched (t : Fin (cfg1 a).N) : ℕ := (a.1 1 (entry1 (grid1.coords t)) : BitVec 32).toNat

theorem blk1_apply (c : Dev nD) (t : Fin (cfg1 a).N) (f : ℕ) (hf : fetched a t = f) (hlt : f < 12) (r : Fin 32) (k : Fin 192) (l : Fin 384) :
    blk1 W a c t (ix4 (0 : Fin 1) r k l)
      = imgT W c (ix4 (⟨t.val / 12, by have := lt48' a t; omega⟩ : Fin 4) (⟨32 * f + r.val, by omega⟩ : Fin 384) k l) := by
  have hc := coords1 t
  have ht := lt48' a t
  refine congrArg (imgT W c) (funext fun b => Fin.ext ?_)
  refine (Pipeline.Window.rect_emb_val ((cfg1 a).win 0) t _ b).trans ?_
  match b with
  | ⟨0, _⟩ =>
    show (BitVec.ofNat 32 ((grid1.coords t) 0).val).toNat * 1 + 0 = t.val / 12
    rw [hc.1, BitVec.toNat_ofNat]; omega
  | ⟨1, _⟩ =>
    show fetched a t * 32 + r.val = 32 * f + r.val
    rw [hf]; omega
  | ⟨2, _⟩ => exact (Nat.zero_add _)
  | ⟨3, _⟩ => exact (Nat.zero_add _)

/-! ## The blocks written back -/

theorem flush_1 (t : Fin (cfg1 a).N) : ((cfg1 a).win 1).flush t = true :=
  (Pipeline.Window.flush_reads ((cfg1 a).win 1) rfl (1 : Fin 2) (show 1 < grid1.bound 1 by decide) (show grid1.fixedAfter reads1_1 1 = true by decide)
    (Pipeline.Window.sep_of_coord cc1_transform_1 1 1 (fun _ => rfl) (by decide)) (P := 1) (m := 0) (show grid1.stride 1 = 1 by decide) rfl t).mpr (Nat.mod_one _)
theorem flush_2 (t : Fin (cfg1 a).N) : ((cfg1 a).win 2).flush t = true :=
  (Pipeline.Window.flush_reads ((cfg1 a).win 2) rfl (1 : Fin 2) (show 1 < grid1.bound 1 by decide) (show grid1.fixedAfter reads1_2 1 = true by decide)
    (Pipeline.Window.sep_of_coord cc1_transform_2 1 1 (fun _ => rfl) (by decide)) (P := 1) (m := 0) (show grid1.stride 1 = 1 by decide) rfl t).mpr (Nat.mod_one _)

theorem emb_1 (t : Fin (cfg1 a).N) (z : Fin 1) (r : Fin 32) (k : Fin 192) (l : Fin 384) :
    ((((cfg1 a).win 1).blk t).view.emb (ix4 z r k l) : S4x384x192x384.Idx)
      = ix4 (⟨t.val / 12, by have := lt48' a t; omega⟩ : Fin 4) (⟨32 * (t.val % 12) + r.val, by omega⟩ : Fin 384) k l := by
  have hc := coords1 t
  have ht := lt48' a t
  refine funext fun b => Fin.ext ?_
  refine (Pipeline.Window.rect_emb_val ((cfg1 a).win 1) t _ b).trans ?_
  match b with
  | ⟨0, _⟩ =>
    show (BitVec.ofNat 32 ((grid1.coords t) 0).val).toNat * 1 + z.val = t.val / 12
    rw [hc.1, BitVec.toNat_ofNat]; omega
  | ⟨1, _⟩ =>
    show (BitVec.ofNat 32 ((grid1.coords t) 1).val).toNat * 32 + r.val = 32 * (t.val % 12) + r.val
    rw [hc.2, BitVec.toNat_ofNat]; omega
  | ⟨2, _⟩ => exact (Nat.zero_add _)
  | ⟨3, _⟩ => exact (Nat.zero_add _)

theorem emb_2 (t : Fin (cfg1 a).N) (z : Fin 1) (r : Fin 32) (l : Fin 384) :
    ((((cfg1 a).win 2).blk t).view.emb (ix3 z r l) : S4x384x384.Idx)
      = ix3 (⟨t.val / 12, by have := lt48' a t; omega⟩ : Fin 4) (⟨32 * (t.val % 12) + r.val, by omega⟩ : Fin 384) l := by
  have hc := coords1 t
  have ht := lt48' a t
  refine funext fun b => Fin.ext ?_
  refine (Pipeline.Window.rect_emb_val ((cfg1 a).win 2) t _ b).trans ?_
  match b with
  | ⟨0, _⟩ =>
    show (BitVec.ofNat 32 ((grid1.coords t) 0).val).toNat * 1 + z.val = t.val / 12
    rw [hc.1, BitVec.toNat_ofNat]; omega
  | ⟨1, _⟩ =>
    show (BitVec.ofNat 32 ((grid1.coords t) 1).val).toNat * 32 + r.val = 32 * (t.val % 12) + r.val
    rw [hc.2, BitVec.toNat_ofNat]; omega
  | ⟨2, _⟩ => exact (Nat.zero_add _)

/-- The point whose block a row of a batch is in. -/
def ptRow (b : Fin 4) (r : Fin 384) : Fin (cfg1 a).N := ⟨12 * b.val + r.val / 32, by have e : (cfg1 a).N = 48 := N_1; rw [e]; omega⟩

theorem arr_1 (c : Dev nD) (G : S4x384x192x384.Idx → EReal)
    (h : ∀ (t : Fin (cfg1 a).N) (z : Fin 1) (r : Fin 32) (k : Fin 192) (l : Fin 384),
      mainOut (tbl a (entry1 (grid1.coords t))) (blk1 W a c t) (ix4 z r k l)
        = G (ix4 (⟨t.val / 12, by have := lt48' a t; omega⟩ : Fin 4) (⟨32 * (t.val % 12) + r.val, by omega⟩ : Fin 384) k l)) :
    (dat1 W a c).arrAt 1 (cfg1 a).N = G := by
  refine (dat1 W a c).arrAt_eq_of_cover 1 G (fun t _ => ?_) (fun (i : S4x384x192x384.Idx) => ?_)
  · funext (y : S1x32x192x384.Idx)
    obtain ⟨z, r, k, l, rfl⟩ : ∃ z r k l, y = ix4 z r k l := ⟨_, _, _, _, eq_ix4 y⟩
    exact (h t z r k l).trans (congrArg G (emb_1 a t z r k l).symm)
  · obtain ⟨b, r, k, l, rfl⟩ : ∃ b r k l, i = ix4 b r k l := ⟨_, _, _, _, eq_ix4 i⟩
    have hi : (ix4 b r k l : S4x384x192x384.Idx) = (((cfg1 a).win 1).blk (ptRow a b r)).view.emb
        (ix4 (0 : Fin 1) (⟨r.val % 32, Nat.mod_lt _ (by decide)⟩ : Fin 32) k l) := by
      refine Eq.trans ?_ (emb_1 a (ptRow a b r) _ _ _ _).symm
      refine funext fun d => Fin.ext ?_
      match d with
      | ⟨0, _⟩ => show b.val = (12 * b.val + r.val / 32) / 12; omega
      | ⟨1, _⟩ => show r.val = 32 * ((12 * b.val + r.val / 32) % 12) + r.val % 32; omega
      | ⟨2, _⟩ => rfl
      | ⟨3, _⟩ => rfl
    exact ⟨ptRow a b r, flush_1 a _, Eq.mpr (congrArg (fun x => x ∈ (((cfg1 a).win 1).blk (ptRow a b r)).view.set) hi) (View.emb_mem_set _ _)⟩

theorem arr_2 (c : Dev nD) (G : S4x384x384.Idx → EReal)
    (h : ∀ (t : Fin (cfg1 a).N) (z : Fin 1) (r : Fin 32) (l : Fin 384),
      mainMask (tbl a (entry1 (grid1.coords t))) (blk1 W a c t) (ix3 z r l)
        = G (ix3 (⟨t.val / 12, by have := lt48' a t; omega⟩ : Fin 4) (⟨32 * (t.val % 12) + r.val, by omega⟩ : Fin 384) l)) :
    (dat1 W a c).arrAt 2 (cfg1 a).N = G := by
  refine (dat1 W a c).arrAt_eq_of_cover 2 G (fun t _ => ?_) (fun (i : S4x384x384.Idx) => ?_)
  · funext (y : S1x32x384.Idx)
    obtain ⟨z, r, l, rfl⟩ : ∃ z r l, y = ix3 z r l := ⟨_, _, _, eq_ix3 y⟩
    exact (h t z r l).trans (congrArg G (emb_2 a t z r l).symm)
  · obtain ⟨b, r, l, rfl⟩ : ∃ b r l, i = ix3 b r l := ⟨_, _, _, eq_ix3 i⟩
    have hi : (ix3 b r l : S4x384x384.Idx) = (((cfg1 a).win 2).blk (ptRow a b r)).view.emb
        (ix3 (0 : Fin 1) (⟨r.val % 32, Nat.mod_lt _ (by decide)⟩ : Fin 32) l) := by
      refine Eq.trans ?_ (emb_2 a (ptRow a b r) _ _ _).symm
      refine funext fun d => Fin.ext ?_
      match d with
      | ⟨0, _⟩ => show b.val = (12 * b.val + r.val / 32) / 12; omega
      | ⟨1, _⟩ => show r.val = 32 * ((12 * b.val + r.val / 32) % 12) + r.val % 32; omega
      | ⟨2, _⟩ => rfl
    exact ⟨ptRow a b r, flush_2 a _, Eq.mpr (congrArg (fun x => x ∈ (((cfg1 a).win 2).blk (ptRow a b r)).view.set) hi) (View.emb_mem_set _ _)⟩

end Cert.Count
end
-- ==== Proof.Value.Carry.lean ====
/-
  What the counting region and the host code between the regions give: the table of running counts holds the counts before the blocks, and
  below the limit a point of the masking region fetches its own block.
-/
module
public import proofs.«01_k».proof.Proof.Value.Prefix
public import proofs.«01_k».proof.Proof.Value.Reads
public import Idealize.ShloMosaic.Lib.IndicatorCount
@[expose] public section
noncomputable section
namespace Cert.Count
open Cert.KernelIdeal Cert.KernelIdeal.Gen Cert.KernelIdeal.Hand
open Idealize.ShloMosaic Idealize.ShloMosaic.ValueIdx Idealize.ShloMosaic.TcCoe
open Idealize.SL Idealize.SL.Sem

/-- A block's flags are the image's, for the counting body. -/
theorem g0_eq (W : Dev nD → Valuation τ sig (Elt Ideal)) (c : Dev nD) (A : S4x384x384x192.Idx → EReal)
    (hA : ∀ (b : Fin 4) (r : Fin 384) (k : Fin 192) (l : Fin 384), imgT W c (ix4 b r k l) = A (ix4 b r l k)) (t : Fin cfg0.N) (b i : ℕ)
    (hb : t.val / 12 = b) (hi : t.val % 12 = i) (r : ℕ) (hr : r < 32) (l : ℕ) (hl : l < 384) :
    gBlk (n := 8) (by decide) (blk0 W c t) r l = gI A b (32 * i + r) l := by
  subst hb hi
  rw [gBlk, dif_pos ⟨hr, hl⟩, gI, dif_pos ⟨by have := lt48 t; omega, by omega, hl⟩]
  congr 2
  exact (blk0_apply W c t ⟨r, hr⟩ ⟨0, by decide⟩ ⟨l, hl⟩).trans (hA _ _ _ _)

/-- A block's flags are the image's, for the masking body. -/
theorem g1_eq (W : Dev nD → Valuation τ sig (Elt Ideal)) (a : (pcfg1 (F := Ideal)).Adm) (c : Dev nD) (A : S4x384x384x192.Idx → EReal)
    (hA : ∀ (b : Fin 4) (r : Fin 384) (k : Fin 192) (l : Fin 384), imgT W c (ix4 b r k l) = A (ix4 b r l k)) (t : Fin (cfg1 a).N) (b i : ℕ)
    (hb : t.val / 12 = b) (hi : i < 12) (hf : fetched a t = i) (r : ℕ) (hr : r < 32) (l : ℕ) (hl : l < 384) :
    gX (blk1 W a c t) r l = gI A b (32 * i + r) l := by
  subst hb
  rw [gX, gBlk, dif_pos ⟨hr, hl⟩, gI, dif_pos ⟨by have := lt48' a t; omega, by omega, hl⟩]
  congr 2
  exact (blk1_apply W a c t i hf hi ⟨r, hr⟩ ⟨0, by decide⟩ ⟨l, hl⟩).trans (hA _ _ _ _)

/-- The scratch word before a point, as the body takes it: the count of the batch's blocks before. -/
theorem before_eq (W : Dev nD → Valuation τ sig (Elt Ideal)) (c : Dev nD) (A : S4x384x384x192.Idx → EReal)
    (hA : ∀ (b : Fin 4) (r : Fin 384) (k : Fin 192) (l : Fin 384), imgT W c (ix4 b r k l) = A (ix4 b r l k)) (b : ℕ) (hb : b < 4) :
    ∀ (i : ℕ) (_ : i < 12) (h : 12 * b + i < cfg0.N),
      countIn (F := Ideal) (grid0.coords ⟨12 * b + i, h⟩) (fun _ => scr W c (12 * b + i)) = BitVec.ofNat 32 (Pf A b (12288 * i))
  | 0, _, h => if_pos (by rw [(coords0 ⟨12 * b + 0, h⟩).2]; show (12 * b + 0) % 12 = 0; omega)
  | i + 1, hi, h => by
    have h' : 12 * b + i < cfg0.N := by omega
    have ih := before_eq W c A hA b hb i (by omega) h'
    rw [countIn, if_neg (by rw [(coords0 ⟨12 * b + (i + 1), h⟩).2]; show ¬ (12 * b + (i + 1)) % 12 = 0; omega)]
    show scr W c (12 * b + i + 1) = _
    rw [scr, dif_pos h', countOut, ih,
      count_word _ (gBlk_le _ (blk0 W c ⟨12 * b + i, h'⟩)) _ (pay1_eq (blk0 W c ⟨12 * b + i, h'⟩)),
      Pf_next A _ b i (g0_eq W c A hA ⟨12 * b + i, h'⟩ b i (by show (12 * b + i) / 12 = b; omega) (by show (12 * b + i) % 12 = i; omega)), BitVec.ofNat_add]

theorem carries_eq (W : Dev nD → Valuation τ sig (Elt Ideal)) (c : Dev nD) (A : S4x384x384x192.Idx → EReal)
    (hA : ∀ (b : Fin 4) (r : Fin 384) (k : Fin 192) (l : Fin 384), imgT W c (ix4 b r k l) = A (ix4 b r l k)) (b : Fin 4) (i : Fin 12) :
    carries W c (ix2 b i) = BitVec.ofNat 32 (Pf A b.val (12288 * i.val)) :=
  before_eq W c A hA b.val b.isLt i.val i.isLt _

/-! ## The fetched block -/

theorem slt_small (x y : ℕ) (hx : x < 2147483648) (hy : y < 2147483648) : (BitVec.ofNat 32 x).slt (BitVec.ofNat 32 y) = decide (x < y) := by
  rw [BitVec.slt, toInt_small x hx, toInt_small y hy]
  exact decide_eq_decide.mpr (by omega)

/-- Below the limit, with the counts before the blocks never falling, the point's own block is fetched. -/
theorem fetch_own (T : Vec Ideal S4x12 .i32) (b : Fin 4) (p : ℕ → ℕ) (hp : Monotone p) (hT : ∀ i : Fin 12, T (ix2 b i) = BitVec.ofNat 32 (p i.val))
    (i : Fin 12) (hi : p i.val < 20000) : fetchOf T (ix2 b i) = BitVec.ofNat 32 i.val := by
  rw [fetchOf_apply]
  show IntOp.minsi (BitVec.ofNat 32 i.val) (lastNeeded T (rowOf (ix2 b i))) = _
  obtain ⟨n, hn1, hn2, hL⟩ : ∃ n, i.val + 1 ≤ n ∧ n ≤ 48 ∧ lastNeeded T (rowOf (ix2 b i)) = IntOp.maxsi (IntOp.subi (BitVec.ofNat 32 n) 1#32) 0#32 := by
    refine ⟨((Finset.univ.filter fun y : S4x12.Idx => reducesTo_S4x12_S4_d1.drop y = rowOf (ix2 b i)).filter
      fun y => Scalar.cmpi .slt (T y) 20000#32 = 1#1).card, ?_, ?_, ?_⟩
    · have hinj : Function.Injective (fun q : Fin (i.val + 1) => (ix2 b (⟨q.val, by omega⟩ : Fin 12) : S4x12.Idx)) := fun q q' h => by
        have := congrArg Fin.val (congrFun h 1)
        exact Fin.ext this
      have := Finset.card_image_of_injective Finset.univ hinj
      rw [Finset.card_univ, Fintype.card_fin] at this
      rw [← this]
      refine Finset.card_le_card fun y hy => ?_
      obtain ⟨q, -, rfl⟩ := Finset.mem_image.mp hy
      refine Finset.mem_filter.mpr ⟨Finset.mem_filter.mpr ⟨Finset.mem_univ _, ?_⟩, ?_⟩
      · funext d
        refine Fin.ext ?_
        match d with
        | ⟨0, _⟩ => exact reducesTo_S4x12_S4_d1.drop_apply_val_of_eq _ (0 : Fin 1) 0
      · have hq : p q.val < 20000 := lt_of_le_of_lt (hp (by omega)) hi
        rw [hT, slt_lim _ (by show p q.val < _; omega)]
        show BitVec.ofBool (decide (p q.val < 20000)) = 1#1
        rw [decide_eq_true hq]; rfl
    · refine (Finset.card_filter_le _ _).trans ((Finset.card_filter_le _ _).trans ?_)
      rw [Finset.card_univ, Fintype.card_congr (idxEquiv2 (n0 := 4) (n1 := 12))]
      simp
    · rw [← IndicatorCount.fold_addi_setWidth_eq_card (w := 32) (fun y : S4x12.Idx => Scalar.cmpi .slt (T y) 20000#32)]
      have := Shape.foldl_filter_rowMajor_eq_fold (s := S4x12) (t := S4) reducesTo_S4x12_S4_d1.drop IntOp.addi (0#32)
        (fun y => (Scalar.cmpi .slt (T y) 20000#32).setWidth 32) (rowOf (ix2 b i))
      rw [← this]
      rfl
  rw [hL]
  have hb := i.isLt
  have e1 : IntOp.subi (BitVec.ofNat 32 n) 1#32 = BitVec.ofNat 32 (n - 1) := by
    apply BitVec.eq_of_toNat_eq
    show (BitVec.ofNat 32 n - 1#32).toNat = _
    rw [BitVec.toNat_sub, BitVec.toNat_ofNat, BitVec.toNat_ofNat, BitVec.toNat_ofNat]
    omega
  rw [e1]
  have e2 : IntOp.maxsi (BitVec.ofNat 32 (n - 1)) 0#32 = BitVec.ofNat 32 (n - 1) := by
    unfold IntOp.maxsi
    rw [slt_small 0 (n - 1) (by omega) (by omega)]
    split
    · rfl
    next h =>
      have : n - 1 = 0 := by simp at h; omega
      rw [this]
  rw [e2]
  unfold IntOp.minsi
  rw [slt_small _ _ (by omega) (by omega)]
  split
  · rfl
  next h =>
    have : n - 1 = i.val := by simp at h; omega
    rw [this]

end Cert.Count
end
-- ==== Proof.Value.Final.lean ====
/-
  The kernel's two results. The masking region finds the count before a point's block in one table and fetches the block that the other
  names; where the count is below the limit that is the point's own block, and otherwise the point writes zeros, as the mask wants.
-/
module
public import proofs.«01_k».proof.Proof.Value.Carry
public import proofs.«01_k».proof.Proof.KernelIdeal.Regs
@[expose] public section
noncomputable section
namespace Cert.Count
open Cert.KernelIdeal Cert.KernelIdeal.Gen Cert.KernelIdeal.Hand
open Idealize.ShloMosaic Idealize.ShloMosaic.ValueIdx Idealize.ShloMosaic.TcCoe
open Idealize.SL Idealize.SL.Sem

variable (m : (ℓ : Loc nD τ sig) → Buf (Elt Ideal) ℓ) (c : Dev nD)

/-- The image, as the program is given it. -/
abbrev img : S4x384x384x192.Idx → EReal := m ((c : Thread nD τ).loc main_arg0)

theorem v0_eq : Hand.W1 m c (main_v0 : Ref sig .tc)
    = transpose S4x384x192x384 [0, 1, 3, 2] (img m c) transposes_S4x384x384x192_S4x384x192x384_0_1_3_2 := by
  show StableHlo.after hostOps0 _ _ = _
  after_results

theorem img1 (b : Fin 4) (r : Fin 384) (k : Fin 192) (l : Fin 384) : imgT (Hand.W1 m) c (ix4 b r k l) = img m c (ix4 b r l k) := by
  show Hand.W1 m c (main_v0 : Ref sig .tc) (ix4 b r k l) = _
  rw [v0_eq]
  exact transpose_apply _ _ _ _ _ (fun a => by
    match a with
    | ⟨0, _⟩ => rfl
    | ⟨1, _⟩ => rfl
    | ⟨2, _⟩ => rfl
    | ⟨3, _⟩ => rfl)

theorem img3 (b : Fin 4) (r : Fin 384) (k : Fin 192) (l : Fin 384) : imgT (W3 m) c (ix4 b r k l) = img m c (ix4 b r l k) := by
  have h1 : W3 m c (main_v0 : Ref sig .tc) = W2 m c main_v0 := StableHlo.after_of_writes_sub hostOps1 _ hostOps1_writes (by decide)
  have h2 : W2 m c (main_v0 : Ref sig .tc) = Hand.W1 m c main_v0 := by
    unfold W2; exact Function.update_of_ne (StableHlo.devRef_ne_of_ne (by decide)) _ _
  exact (congrFun (h1.trans h2) _).trans (img1 m c b r k l)

/-- The table of counts between the regions. -/
theorem v1_eq : W2 m c (main_v1 : Ref sig .tc) = carries (Hand.W1 m) c := by unfold W2; exact Function.update_self _ _ _

/-- A point's entry in the tables. -/
theorem entry_eq (t : Fin grid1.N) (b : Fin 4) (i : Fin 12) (hb : t.val / 12 = b.val) (hi : t.val % 12 = i.val) :
    entry1 (grid1.coords t) = ix2 b i := by
  have hc := coords1 t
  refine funext fun d => Fin.ext ?_
  match d with
  | ⟨0, _⟩ =>
    show k1_off1 (grid1.coords t) 0 + 0 * 1 = b.val
    rw [k1_off1_0, hc.1, hb]; rfl
  | ⟨1, _⟩ =>
    show k1_off1 (grid1.coords t) 1 + 0 * 1 = i.val
    rw [k1_off1_1, hc.2, hi]; rfl

/-- The count before a point's block, as the masking body reads it. -/
theorem tbl_eq (t : Fin (cfg1 (a1 m)).N) (b : Fin 4) (i : Fin 12) (hb : t.val / 12 = b.val) (hi : t.val % 12 = i.val) :
    tbl (a1 m) (entry1 (grid1.coords t)) = BitVec.ofNat 32 (Pf (img m c) b.val (12288 * i.val)) := by
  have h : tbl (a1 m) = carries (Hand.W1 m) c := (tblW3 m c 0).trans ((v17_eq (W2 m c)).trans (v1_eq m c))
  rw [h, entry_eq t b i hb hi]
  exact carries_eq (Hand.W1 m) c (img m c) (img1 m c) b i

/-- Below the limit a point fetches its own block. -/
theorem fetched_eq (t : Fin (cfg1 (a1 m)).N) (b : Fin 4) (i : Fin 12) (hb : t.val / 12 = b.val) (hi : t.val % 12 = i.val)
    (hlt : Pf (img m c) b.val (12288 * i.val) < 20000) : fetched (a1 m) t = i.val := by
  have h : (a1 m).1 1 = fetchOf (carries (Hand.W1 m) c) :=
    (tblW3 m c 1).trans ((v15_eq (W2 m c)).trans (congrArg fetchOf (v1_eq m c)))
  have h2 : (a1 m).1 1 (entry1 (grid1.coords t)) = BitVec.ofNat 32 i.val := by
    rw [h, entry_eq t b i hb hi]
    exact fetch_own _ b (fun j => Pf (img m c) b.val (12288 * j))
      (fun x y hxy => Pf_mono (img m c) b.val (Nat.mul_le_mul_left _ hxy)) (carries_eq (Hand.W1 m) c (img m c) (img1 m c) b) i hlt
  unfold fetched
  rw [h2, BitVec.toNat_ofNat]
  have := i.isLt
  omega

/-- Past the limit nothing is kept. -/
theorem maskN_past (A : S4x384x384x192.Idx → EReal) (b i r l : ℕ) (hr : r < 32) (hl : l < 384) (h : 20000 ≤ Pf A b (12288 * i)) :
    maskN A b (32 * i + r) l = 0 := by
  have h1 : Pf A b (12288 * i) ≤ Pf A b ((32 * i + r) * 384 + l) := Pf_mono A b (by omega)
  have h2 := Pf_succ A b ((32 * i + r) * 384 + l)
  rw [show ((32 * i + r) * 384 + l) / 384 = 32 * i + r by omega, show ((32 * i + r) * 384 + l) % 384 = l by omega] at h2
  have h3 := gI_le A b (32 * i + r) l
  unfold maskN
  split
  · omega
  · exact Nat.mul_zero _

/-- The point's own count against the limit is the image's. -/
theorem maskN_own (A : S4x384x384x192.Idx → EReal) (g : ℕ → ℕ → ℕ) (b i r l : ℕ) (hg : ∀ r < 32, ∀ c < 384, g r c = gI A b (32 * i + r) c)
    (hr : r < 32) (hl : l < 384) : g r l * keep (Pf A b (12288 * i)) g r l = maskN A b (32 * i + r) l := by
  unfold maskN keep
  rw [hg r hr l hl, Nat.add_assoc _ l 1, Pf_block A g b i hg r hr (l + 1) (by omega)]

/-- The masked image and the mask, at a point's block. -/
theorem point_mask (t : Fin (cfg1 (a1 m)).N) (b : Fin 4) (i : Fin 12) (hb : t.val / 12 = b.val) (hi : t.val % 12 = i.val)
    (z : Fin 1) (r : Fin 32) (l : Fin 384) :
    mainMask (tbl (a1 m) (entry1 (grid1.coords t))) (blk1 (W3 m) (a1 m) c t) (ix3 z r l)
      = num (maskN (img m c) b.val (32 * i.val + r.val) l.val) := by
  have hP := Pf_le (img m c) b.val (12288 * i.val)
  have hi' := i.isLt
  rw [tbl_eq m c t b i hb hi]
  by_cases h : Pf (img m c) b.val (12288 * i.val) < 20000
  · rw [mask_lt _ h, maskN_own (img m c) _ b.val i.val r.val l.val
      (g1_eq (W3 m) (a1 m) c (img m c) (img3 m c) t b.val i.val hb hi' (fetched_eq m c t b i hb hi h)) r.isLt l.isLt]
  · rw [mask_ge _ (by omega) (by omega), maskN_past (img m c) _ _ _ _ r.isLt l.isLt (by omega)]

theorem point_out (t : Fin (cfg1 (a1 m)).N) (b : Fin 4) (i : Fin 12) (hb : t.val / 12 = b.val) (hi : t.val % 12 = i.val)
    (z : Fin 1) (r : Fin 32) (k : Fin 192) (l : Fin 384) :
    mainOut (tbl (a1 m) (entry1 (grid1.coords t))) (blk1 (W3 m) (a1 m) c t) (ix4 z r k l)
      = img m c (ix4 b (⟨32 * i.val + r.val, by omega⟩ : Fin 384) l k) * num (maskN (img m c) b.val (32 * i.val + r.val) l.val) := by
  have hP := Pf_le (img m c) b.val (12288 * i.val)
  have hi' := i.isLt
  rw [tbl_eq m c t b i hb hi]
  by_cases h : Pf (img m c) b.val (12288 * i.val) < 20000
  · have hf := fetched_eq m c t b i hb hi h
    rw [out_lt _ h, maskN_own (img m c) _ b.val i.val r.val l.val
      (g1_eq (W3 m) (a1 m) c (img m c) (img3 m c) t b.val i.val hb hi' hf) r.isLt l.isLt,
      blk1_apply (W3 m) (a1 m) c t i.val hf hi', img3]
    congr 3
    exact Fin.ext hb
  · rw [out_ge _ (by omega) (by omega), maskN_past (img m c) _ _ _ _ r.isLt l.isLt (by omega), num_zero, mul_zero]

/-! ## The results -/

/-- The mask over the image. -/
def maskG : S4x384x384.Idx → EReal := fun j => num (maskN (img m c) (j 0).val (j 1).val (j 2).val)
/-- The masked image, channels before columns. -/
def outG : S4x384x192x384.Idx → EReal :=
  fun j => img m c (ix4 (j 0 : Fin 4) (j 1 : Fin 384) (j 3 : Fin 384) (j 2 : Fin 192)) * num (maskN (img m c) (j 0).val (j 1).val (j 3).val)

theorem region_out : W4 m c (main_v18_0 : Ref sig .tc) = outG m c :=
  (Pipeline.afterRegion_arr (dat1 (W3 m) (a1 m) c) (W3 m c) winFacts1.arr_inj 1).trans
    (arr_1 (W3 m) (a1 m) c (outG m c) fun t z r k l =>
      point_out m c t ⟨t.val / 12, by have := lt48' (a1 m) t; omega⟩ ⟨t.val % 12, by omega⟩ rfl rfl z r k l)

theorem region_mask : W4 m c (main_v18_1 : Ref sig .tc) = maskG m c :=
  (Pipeline.afterRegion_arr (dat1 (W3 m) (a1 m) c) (W3 m c) winFacts1.arr_inj 2).trans
    (arr_2 (W3 m) (a1 m) c (maskG m c) fun t z r l =>
      point_mask m c t ⟨t.val / 12, by have := lt48' (a1 m) t; omega⟩ ⟨t.val % 12, by omega⟩ rfl rfl z r l)

theorem v19_eq : W5 m c (main_v19 : Ref sig .tc)
    = transpose S4x384x384x192 [0, 1, 3, 2] (W4 m c (main_v18_0 : Ref sig .tc)) transposes_S4x384x192x384_S4x384x384x192_0_1_3_2 := by
  show StableHlo.after hostOps2 _ _ = _
  after_results

theorem v20_eq : W5 m c (main_v20 : Ref sig .tc)
    = shapeCast S4x384x384x1 (W4 m c (main_v18_1 : Ref sig .tc)) shapeCasts_S4x384x384_S4x384x384x1 := by
  show StableHlo.after hostOps2 _ _ = _
  after_results
  rfl

/-- The kernel's first result: the image times its mask. -/
theorem kernel_out (b : Fin 4) (r l : Fin 384) (k : Fin 192) :
    W5 m c (main_v19 : Ref sig .tc) (ix4 b r l k) = img m c (ix4 b r l k) * num (maskN (img m c) b.val r.val l.val) := by
  rw [v19_eq, region_out]
  exact transpose_apply _ (outG m c) _ _ (ix4 b r k l) (fun a => by
    match a with
    | ⟨0, _⟩ => rfl
    | ⟨1, _⟩ => rfl
    | ⟨2, _⟩ => rfl
    | ⟨3, _⟩ => rfl)

/-- Its second: the mask. -/
theorem kernel_mask (b : Fin 4) (r l : Fin 384) (z : Fin 1) :
    W5 m c (main_v20 : Ref sig .tc) (ix4 b r l z) = num (maskN (img m c) b.val r.val l.val) := by
  rw [v20_eq, region_mask]
  exact shapeCast_apply (maskG m c) _ _ (ix3 b r l) (by
    rw [Shape.rowMajor_val_four, Shape.rowMajor_val_three]
    show (b.val * 384 + r.val) * 384 + l.val = ((b.val * 384 + r.val) * 384 + l.val) * 1 + z.val
    omega)

end Cert.Count
end
-- ==== Proof.Value.Ref.lean ====
/-
  The reference read at an index: its running count is the image's, so its mask is the flag of a pixel where the count is at most the limit,
  and its first result is the image times that.
-/
module
public import proofs.«01_k».proof.Proof.Value.Prefix
public import proofs.«01_k».proof.Proof.Value.Block
public import proofs.«01_k».proof.Proof.Gen.ReferenceIdeal.Read
public import Idealize.ShloMosaic.Lib.Routing.Ops
@[expose] public section
noncomputable section
namespace Cert.Count
open Cert.ReferenceIdeal Cert.ReferenceIdeal.Gen Cert.ReferenceIdeal.Read
open Idealize.ShloMosaic Idealize.ShloMosaic.ValueIdx Idealize.ShloMosaic.Routing

/-- A running sum along the rows of an array is, row by row, a running sum of that row alone. -/
theorem window_row {B N M : ℕ} (x : IVec (shape2 B N) 32) (v : IVec shape0 32)
    (h : (shape2 B N).ReduceWindows (![1, N] : Fin 2 → ℕ) ![1, 1] ![0, M] ![0, 0] (shape2 B N))
    (h' : (shape2 1 N).ReduceWindows (![1, N] : Fin 2 → ℕ) ![1, 1] ![0, M] ![0, 0] (shape2 1 N)) (hu : 0 < shape0.numel) (b : Fin B) (j : Fin N) :
    Host.reduceWindow IntOp.addi ![1, N] ![1, 1] ![0, M] ![0, 0] x v h hu (ix2 b j)
      = Host.reduceWindow IntOp.addi ![1, N] ![1, 1] ![0, M] ![0, 0] (fun i : (shape2 1 N).Idx => x (ix2 b (i 1 : Fin N))) v h' hu (ix2 (0 : Fin 1) j) := by
  unfold Host.reduceWindow
  refine congrArg (fun G => List.foldl G (v (Shape.Idx.first hu)) (List.finRange _)) (funext fun q => funext fun n => congrArg (IntOp.addi q) ?_)
  have hb := b.isLt
  have w0 : ((shape2 1 N).rowMajor.symm n 0).val < 1 := ((shape2 1 N).rowMajor.symm n 0).isLt
  by_cases hin : M ≤ j.val * 1 + ((shape2 1 N).rowMajor.symm n 1).val ∧ j.val * 1 + ((shape2 1 N).rowMajor.symm n 1).val - M < N
  · refine (dif_pos fun a => ?_).trans (Eq.trans ?_ (dif_pos fun a => ?_).symm)
    · match a with
      | ⟨0, _⟩ => exact ⟨Nat.zero_le _, by show b.val * 1 + ((shape2 1 N).rowMajor.symm n 0).val - 0 < B; omega⟩
      | ⟨1, _⟩ => exact hin
    · refine congrArg x (funext fun a => Fin.ext ?_)
      match a with
      | ⟨0, _⟩ => show b.val * 1 + ((shape2 1 N).rowMajor.symm n 0).val - 0 = b.val; omega
      | ⟨1, _⟩ => rfl
    · match a with
      | ⟨0, _⟩ => exact ⟨Nat.zero_le _, by show 0 * 1 + ((shape2 1 N).rowMajor.symm n 0).val - 0 < 1; omega⟩
      | ⟨1, _⟩ => exact hin
  · refine Eq.trans (b := v (Shape.Idx.first hu)) ?_ (Eq.symm ?_)
    · exact dif_neg fun ha => hin (ha 1)
    · exact dif_neg fun ha => hin (ha 1)

theorem Pf_list (A : S4x384x384x192.Idx → EReal) (b k : ℕ) :
    ((List.range k).map fun n => gI A b (n / 384) (n % 384)).sum = Pf A b k := by
  induction k with
  | zero => rfl
  | succ k ih => rw [List.range_succ, List.map_append, List.sum_append, ih, Pf_succ]; simp

variable (A : S4x384x384x192.Idx → EReal)

/-- A running sum along the rows, where the entries are words of naturals. -/
theorem count_rows {B N M : ℕ} (hM : M + 1 = N) (x : IVec (shape2 B N) 32) (v : IVec shape0 32) (hv : v ix0 = 0#32)
    (h : (shape2 B N).ReduceWindows (![1, N] : Fin 2 → ℕ) ![1, 1] ![0, M] ![0, 0] (shape2 B N)) (hu : 0 < shape0.numel)
    (b : Fin B) (f : ℕ → ℕ) (hf : ∀ i : Fin N, x (ix2 b i) = BitVec.ofNat 32 (f i.val)) (j : Fin N) :
    Host.reduceWindow IntOp.addi ![1, N] ![1, 1] ![0, M] ![0, 0] x v h hu (ix2 b j) = BitVec.ofNat 32 ((List.range (j.val + 1)).map f).sum :=
  have h' : (shape2 1 N).ReduceWindows (![1, N] : Fin 2 → ℕ) ![1, 1] ![0, M] ![0, 0] (shape2 1 N) :=
    ⟨rfl, fun a => match a with
      | ⟨0, _⟩ => ⟨Nat.one_pos, by show 1 ≤ 0 + 1 + 0; omega, by show 1 = (0 + 1 + 0 - 1) / 1 + 1; omega⟩
      | ⟨1, _⟩ => ⟨Nat.one_pos, by show N ≤ M + N + 0; omega, by show N = (M + N + 0 - N) / 1 + 1; omega⟩⟩
  (window_row x v h h' hu b j).trans (cumsum2 hM _ f hf v hv h' hu j)

theorem at5 (b : Fin 4) (n : Fin 147456) : idx_main_v5 (ix2 b n)
    = ix3 b (⟨n.val / 384, by have := n.isLt; omega⟩ : Fin 384) (⟨n.val % 384, Nat.mod_lt _ (by decide)⟩ : Fin 384) := by
  have hn := n.isLt
  have hb := b.isLt
  refine funext fun d => Fin.ext ?_
  match d with
  | ⟨0, _⟩ => show (b.val * 147456 + n.val) / 147456 = b.val; omega
  | ⟨1, _⟩ => show (b.val * 147456 + n.val) / 384 % 384 = n.val / 384; omega
  | ⟨2, _⟩ => show (b.val * 147456 + n.val) % 384 = n.val % 384; omega

theorem at1 (b : Fin 4) (r c : Fin 384) : idx_main_v1 (ix3 b r c) = ix4 b r c (0 : Fin 1) := by
  have hr := r.isLt
  have hc := c.isLt
  have hb := b.isLt
  refine funext fun d => Fin.ext ?_
  match d with
  | ⟨0, _⟩ => show ((b.val * 384 + r.val) * 384 + c.val) / 147456 = b.val; omega
  | ⟨1, _⟩ => show ((b.val * 384 + r.val) * 384 + c.val) / 384 % 384 = r.val; omega
  | ⟨2, _⟩ => show ((b.val * 384 + r.val) * 384 + c.val) / 1 % 384 = c.val; omega
  | ⟨3, _⟩ => rfl

theorem at0 (b : Fin 4) (r c : Fin 384) : idx_main_v0 (ix4 b r c (0 : Fin 1)) = ix4 b r c (0 : Fin 192) := by
  refine funext fun d => Fin.ext ?_
  match d with
  | ⟨0, _⟩ => rfl
  | ⟨1, _⟩ => rfl
  | ⟨2, _⟩ => rfl
  | ⟨3, _⟩ => rfl

/-- The flags, pixels numbered row by row. -/
theorem ref_flag (b : Fin 4) (n : Fin 147456) :
    val_main_v5 (F := Ideal) A (ix2 b n) = BitVec.ofNat 32 (gI A b.val (n.val / 384) (n.val % 384)) := by
  have hn := n.isLt
  have hb := b.isLt
  have hi : idx_main_v0 (idx_main_v1 (idx_main_v5 (ix2 b n)))
      = ix4 b (⟨n.val / 384, by omega⟩ : Fin 384) (⟨n.val % 384, by omega⟩ : Fin 384) (0 : Fin 192) := by
    rw [at5, at1, at0]
  rw [val_main_v5_apply, val_main_v4_apply, val_main_v3_apply, val_main_v1_apply, val_main_v0_apply, val_main_v2_apply, val_main_cst_apply, hi]
  rw [gI, dif_pos ⟨b.isLt, by omega, by omega⟩, BitVec.ofNat_toNat]
  rfl

/-- The running count. -/
theorem ref_count (b : Fin 4) (n : Fin 147456) : val_main_v6 (F := Ideal) A (ix2 b n) = BitVec.ofNat 32 (Pf A b.val (n.val + 1)) := by
  have hF := ref_flag A b
  unfold val_main_v6
  generalize val_main_v5 (F := Ideal) A = y at hF ⊢
  rw [← Pf_list]
  exact count_rows (B := 4) (N := 147456) (M := 147455) rfl y _ rfl _ _ b (fun q => gI A b.val (q / 384) (q % 384)) hF n

theorem ref_and (f p : ℕ) (hf : f ≤ 1) (hp : p < 2147483648) :
    (IntOp.andi (IntOp.cmpi .eq (BitVec.ofNat 32 f) 1#32) (IntOp.cmpi .sle (BitVec.ofNat 32 p) 20000#32)).toNat = f * (if p ≤ 20000 then 1 else 0) := by
  have h2 : IntOp.cmpi .sle (BitVec.ofNat 32 p) 20000#32 = BitVec.ofBool (decide (p ≤ 20000)) := sle_lim p hp
  rw [h2]
  obtain rfl | rfl : f = 0 ∨ f = 1 := by omega
  · by_cases h : p ≤ 20000
    · rw [decide_eq_true h, if_pos h]; decide
    · rw [decide_eq_false h, if_neg h]; decide
  · by_cases h : p ≤ 20000
    · rw [decide_eq_true h, if_pos h]; decide
    · rw [decide_eq_false h, if_neg h]; decide

/-- The reference's second result: the mask. -/
theorem ref_mask (b : Fin 4) (r l : Fin 384) (z : Fin 1) : val_main_v13 (F := Ideal) A (ix4 b r l z) = num (maskN A b.val r.val l.val) := by
  have hb := b.isLt
  have hr := r.isLt
  have hl := l.isLt
  have hk : r.val * 384 + l.val < 147456 := by omega
  have hi : idx_main_v13 (ix4 b r l z) = ix2 b (⟨r.val * 384 + l.val, hk⟩ : Fin 147456) := by
    refine funext fun d => Fin.ext ?_
    match d with
    | ⟨0, _⟩ => show (((b.val * 384 + r.val) * 384 + l.val) * 1 + z.val) / 147456 = b.val; omega
    | ⟨1, _⟩ => show (((b.val * 384 + r.val) * 384 + l.val) * 1 + z.val) % 147456 = r.val * 384 + l.val; omega
  have hP := Pf_le A b.val (r.val * 384 + l.val + 1)
  rw [val_main_v13_apply, hi, val_main_v12_apply, val_main_v11_apply, val_main_v8_apply, val_main_v10_apply, val_main_v7_apply, val_main_v9_apply,
    val_main_c_apply, val_main_c_0_apply, ref_flag, ref_count]
  refine (uflag_num _).trans (congrArg num ?_)
  rw [ref_and _ _ (gI_le A _ _ _) (by show Pf A b.val (r.val * 384 + l.val + 1) < _; omega)]
  show gI A b.val ((r.val * 384 + l.val) / 384) ((r.val * 384 + l.val) % 384) * _ = _
  rw [show (r.val * 384 + l.val) / 384 = r.val by omega, show (r.val * 384 + l.val) % 384 = l.val by omega]
  rfl

/-- Its first: the image times the mask. -/
theorem ref_out (b : Fin 4) (r l : Fin 384) (k : Fin 192) :
    val_main_v15 (F := Ideal) A (ix4 b r l k) = A (ix4 b r l k) * num (maskN A b.val r.val l.val) := by
  rw [val_main_v15_apply, val_main_v14_apply]
  have hi : idx_main_v14 (ix4 b r l k) = ix4 b r l (0 : Fin 1) := by
    refine funext fun d => Fin.ext ?_
    match d with
    | ⟨0, _⟩ => rfl
    | ⟨1, _⟩ => rfl
    | ⟨2, _⟩ => rfl
    | ⟨3, _⟩ => rfl
  rw [hi, ref_mask]
  rfl

end Cert.Count
end
-- ==== Proof.lean ====
/-
  The certificate: the kernel's two texts run by the same proof (Proof/Kernel, Proof/KernelIdeal), the reference's run is its list of
  operations. The kernel's results and the reference's are the same image and mask, pixel by pixel (Proof/Value).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Regs
public import proofs.«01_k».proof.Proof.KernelIdeal.Regs
public import proofs.«01_k».proof.Proof.Value.Final
public import proofs.«01_k».proof.Proof.Value.Ref
public import Idealize.ShloMosaic.Adequacy
public import Idealize.ShloMosaic.Init

@[expose] public section

noncomputable section

namespace Cert.Proof

open Idealize.ShloMosaic Idealize.ShloMosaic.ValueIdx Idealize.ShloMosaic.TcCoe Idealize.SL.Sem Cert.Kernel

/-- The kernel as printed runs, keeps its argument and ends quiescent. -/
theorem frame_p : Cert.quiescent_Kernel (hKernel := Cert.Kernel.Gen.facts) := fun m ρ _ =>
  (θ_run _ _ _).mono (fun _ h => ⟨fun c => (h.1 c).2.2, h.2⟩) (Cert.Kernel.Hand.run_main (F := Bits) m ρ)

/-- So does its exact reading. -/
theorem frame_pi : Cert.quiescent_KernelIdeal (hKernelIdeal := Cert.KernelIdeal.Gen.facts) := fun m ρ _ =>
  (θ_run _ _ _).mono (fun _ h => ⟨fun c => (h.1 c).2.2, h.2⟩) (Cert.KernelIdeal.Hand.run_main (F := Ideal) m ρ)

/-- And the reference, which has no semaphore. -/
theorem frame_ri : Cert.quiescent_ReferenceIdeal (hReferenceIdeal := Cert.ReferenceIdeal.Gen.facts) := fun m ρ _ =>
  (θ_run _ _ _).mono (fun r h => ⟨fun c => (h c).2.2, Idealize.ShloMosaic.sem_eq_zero_of_no_sems (by decide) r.2⟩)
    (Cert.ReferenceIdeal.Value.run (F := Ideal) m ρ)

/-- The masked images agree. -/
theorem same_out (m : (ℓ : Loc Cert.KernelIdeal.nD Cert.KernelIdeal.τ Cert.KernelIdeal.sig) → Buf (Elt Ideal) ℓ) (c : Dev Cert.KernelIdeal.nD) :
    Cert.ReferenceIdeal.Read.val_main_v15 (F := Ideal) (Cert.Count.img m c) = Cert.KernelIdeal.Hand.W5 m c (Cert.KernelIdeal.main_v19 : Ref Cert.KernelIdeal.sig .tc) := by
  funext (j : Cert.KernelIdeal.S4x384x384x192.Idx)
  obtain ⟨b, r, l, k, rfl⟩ : ∃ b r l k, j = ix4 b r l k := ⟨_, _, _, _, eq_ix4 j⟩
  exact (Cert.Count.ref_out (Cert.Count.img m c) b r l k).trans (Cert.Count.kernel_out m c b r l k).symm

/-- The masks agree. -/
theorem same_mask (m : (ℓ : Loc Cert.KernelIdeal.nD Cert.KernelIdeal.τ Cert.KernelIdeal.sig) → Buf (Elt Ideal) ℓ) (c : Dev Cert.KernelIdeal.nD) :
    Cert.ReferenceIdeal.Read.val_main_v13 (F := Ideal) (Cert.Count.img m c) = Cert.KernelIdeal.Hand.W5 m c (Cert.KernelIdeal.main_v20 : Ref Cert.KernelIdeal.sig .tc) := by
  funext (j : Cert.KernelIdeal.S4x384x384x1.Idx)
  obtain ⟨b, r, l, z, rfl⟩ : ∃ b r l z, j = ix4 b r l z := ⟨_, _, _, _, eq_ix4 j⟩
  exact (Cert.Count.ref_mask (Cert.Count.img m c) b r l z).trans (Cert.Count.kernel_mask m c b r l z).symm

/-- From one image, the kernel's exact reading and the reference end with equal results. -/
theorem same_results : Cert.algebraic_KernelIdeal_ReferenceIdeal (hKernelIdeal := Cert.KernelIdeal.Gen.facts)
    (hReferenceIdeal := Cert.ReferenceIdeal.Gen.facts) := fun m g m' g' _ hA =>
  ⟨fun c => Cert.KernelIdeal.Hand.W5 m c (Cert.KernelIdeal.main_v19 : Ref Cert.KernelIdeal.sig .tc), fun c => Cert.KernelIdeal.Hand.W5 m c (Cert.KernelIdeal.main_v20 : Ref Cert.KernelIdeal.sig .tc),
    (θ_run _ _ _).mono (fun _ h c => ⟨(h.1 c).1, (h.1 c).2.1, (h.1 c).2.2⟩) (Cert.KernelIdeal.Hand.run_main (F := Ideal) m g),
    (θ_run _ _ _).mono (fun _ h c =>
      ⟨((h c).1.trans (Cert.ReferenceIdeal.Read.val_main_v15_eq (F := Ideal) _)).trans
          ((congrArg (Cert.ReferenceIdeal.Read.val_main_v15 (F := Ideal)) (hA c)).trans (same_out m c)),
        ((h c).2.1.trans (Cert.ReferenceIdeal.Read.val_main_v13_eq (F := Ideal) _)).trans
          ((congrArg (Cert.ReferenceIdeal.Read.val_main_v13 (F := Ideal)) (hA c)).trans (same_mask m c)), (h c).2.2⟩)
      (Cert.ReferenceIdeal.Value.run (F := Ideal) m' g')⟩

theorem claim : Cert.Claim := ⟨Cert.Kernel.Gen.facts, Cert.KernelIdeal.Gen.facts, Cert.ReferenceIdeal.Gen.facts, frame_p, frame_pi, frame_ri, trivial, same_results⟩

end Cert.Proof

end
